-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference)
    ∧ preserves_Kernel_KernelIdeal
    ∧ preserves_Reference_ReferenceIdeal
    ∧ algebraic_KernelIdeal_ReferenceIdeal_pre_in_range (hKernelIdeal := hKernelIdeal) (hReferenceIdeal := hReferenceIdeal) (hPre_in_range := hPre_in_range)
-- ==== Pre_in_range.lean ====
abbrev S2x8192x5120 : Shape := ⟨3, ![2, 8192, 5120]⟩
abbrev S3456x5120 : Shape := ⟨2, ![3456, 5120]⟩
abbrev S27x40 : Shape := ⟨2, ![27, 40]⟩
abbrev S16384x40x128 : Shape := ⟨3, ![16384, 40, 128]⟩
abbrev S_ : Shape := ⟨0, ![]⟩
abbrev S16384x40 : Shape := ⟨2, ![16384, 40]⟩

class Facts : Prop where
  bitsLt_bf16_f32 : FTy.bits .bf16 < FTy.bits .f32
  shapeCasts_S2x8192x5120_S16384x40x128 : S2x8192x5120.ShapeCasts S16384x40x128
  reducesTo_S16384x40x128_S16384x40_d2 : S16384x40x128.ReducesTo [2] S16384x40
  h_S_ : 0 < S_.numel
  bcast_S_S16384x40 : S_.BroadcastsInDim S16384x40 (![] : Fin 0 → Fin S16384x40.rank)
  reducesTo_S16384x40_S_d0_1 : S16384x40.ReducesTo [0, 1] S_

variable [Facts]

def fn {F : FTy → Type} [FloatOps F] (main_arg0 : FVec F S2x8192x5120 .bf16) (main_arg1 : FVec F S3456x5120 .fp8e4m3) (main_arg2 : FVec F S27x40 .f32) : IVec S_ 1 :=
  let main_v0 : FVec F S2x8192x5120 .f32 := (extf .f32 · bitsLt_bf16_f32) main_arg0
  let main_v1 : FVec F S2x8192x5120 .f32 := Host.absf main_v0
  let main_v2 : FVec F S16384x40x128 .f32 := shapeCast S16384x40x128 main_v1 shapeCasts_S2x8192x5120_S16384x40x128
  let main_cst : FVec F S_ .f32 := constant S_ .f32 0xFF800000#32
  let main_v3 : FVec F S16384x40 .f32 := (fun x v => Host.reduce FloatOps.maximumf x v reducesTo_S16384x40x128_S16384x40_d2 h_S_) main_v2 main_cst
  let main_cst_0 : FVec F S_ .f32 := constant S_ .f32 0x3B124925#32
  let main_v4 : FVec F S16384x40 .f32 := broadcastInDim S16384x40 ![] bcast_S_S16384x40 main_cst_0
  let main_v5 : FVec F S16384x40 .f32 := mulf main_v3 main_v4
  let main_cst_1 : FVec F S_ .f32 := constant S_ .f32 0x7F7F0000#32
  let main_v6 : FVec F S16384x40 .f32 := broadcastInDim S16384x40 ![] bcast_S_S16384x40 main_cst_1
  let main_v7 : IVec S16384x40 1 := cmpf .ole main_v3 main_v6
  let main_cst_2 : FVec F S_ .f32 := constant S_ .f32 0x00000000#32
  let main_v8 : FVec F S16384x40 .f32 := broadcastInDim S16384x40 ![] bcast_S_S16384x40 main_cst_2
  let main_v9 : IVec S16384x40 1 := cmpf .oeq main_v3 main_v8
  let main_cst_3 : FVec F S_ .f32 := constant S_ .f32 0x00800000#32
  let main_v10 : FVec F S16384x40 .f32 := broadcastInDim S16384x40 ![] bcast_S_S16384x40 main_cst_3
  let main_v11 : IVec S16384x40 1 := cmpf .oge main_v5 main_v10
  let main_v12 : IVec S16384x40 1 := ori main_v9 main_v11
  let main_v13 : IVec S16384x40 1 := andi main_v7 main_v12
  let main_c : IVec S_ 1 := constantI S_ 1 1#1
  let main_v14 : IVec S_ 1 := (fun x v => Host.reduce IntOp.andi x v reducesTo_S16384x40_S_d0_1 h_S_) main_v13 main_c
  main_v14
-- ==== Kernel.lean ====
abbrev S2x8192x5120 : Shape := ⟨3, ![2, 8192, 5120]⟩
abbrev S3456x5120 : Shape := ⟨2, ![3456, 5120]⟩
abbrev S27x40 : Shape := ⟨2, ![27, 40]⟩
abbrev S40x27 : Shape := ⟨2, ![40, 27]⟩
abbrev S40x27x1 : Shape := ⟨3, ![40, 27, 1]⟩
abbrev S40x27x128 : Shape := ⟨3, ![40, 27, 128]⟩
abbrev S40x3456 : Shape := ⟨2, ![40, 3456]⟩
abbrev S16384x5120 : Shape := ⟨2, ![16384, 5120]⟩
abbrev S16384x3456 : Shape := ⟨2, ![16384, 3456]⟩
abbrev S16384x40 : Shape := ⟨2, ![16384, 40]⟩
abbrev S256x5120 : Shape := ⟨2, ![256, 5120]⟩
abbrev S256x3456 : Shape := ⟨2, ![256, 3456]⟩
abbrev S256x40 : Shape := ⟨2, ![256, 40]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S3456x128 : Shape := ⟨2, ![3456, 128]⟩
abbrev S1x3456 : Shape := ⟨2, ![1, 3456]⟩

abbrev nBuf : Space → Nat
  | .hbm => 11
  | .vmem => 11
  | .smem => 0
  | _ => 0

abbrev bufTy : (tb : Table) → Fin (tcTables nBuf tb) → BufTy
  | .hbm, ⟨0, _⟩ => ⟨S2x8192x5120, .bf16⟩
  | .hbm, ⟨1, _⟩ => ⟨S3456x5120, .fp8e4m3⟩
  | .hbm, ⟨2, _⟩ => ⟨S27x40, .f32⟩
  | .hbm, ⟨3, _⟩ => ⟨S40x27, .f32⟩
  | .hbm, ⟨4, _⟩ => ⟨S40x27x1, .f32⟩
  | .hbm, ⟨5, _⟩ => ⟨S40x27x128, .f32⟩
  | .hbm, ⟨6, _⟩ => ⟨S40x3456, .f32⟩
  | .hbm, ⟨7, _⟩ => ⟨S16384x5120, .bf16⟩
  | .hbm, ⟨8, _⟩ => ⟨S16384x3456, .bf16⟩
  | .hbm, ⟨9, _⟩ => ⟨S16384x5120, .fp8e4m3⟩
  | .hbm, ⟨10, _⟩ => ⟨S16384x40, .f32⟩
  | .local _ .vmem, ⟨0, _⟩ => ⟨S256x5120, .bf16⟩
  | .local _ .vmem, ⟨1, _⟩ => ⟨S256x5120, .bf16⟩
  | .local _ .vmem, ⟨2, _⟩ => ⟨S3456x5120, .fp8e4m3⟩
  | .local _ .vmem, ⟨3, _⟩ => ⟨S40x3456, .f32⟩
  | .local _ .vmem, ⟨4, _⟩ => ⟨S256x3456, .bf16⟩
  | .local _ .vmem, ⟨5, _⟩ => ⟨S256x3456, .bf16⟩
  | .local _ .vmem, ⟨6, _⟩ => ⟨S256x5120, .fp8e4m3⟩
  | .local _ .vmem, ⟨7, _⟩ => ⟨S256x5120, .fp8e4m3⟩
  | .local _ .vmem, ⟨8, _⟩ => ⟨S256x40, .f32⟩
  | .local _ .vmem, ⟨9, _⟩ => ⟨S256x40, .f32⟩
  | .local _ .vmem, ⟨10, _⟩ => ⟨S256x3456, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x3456 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3456 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5120 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
variable {F : FTy → Type} [FloatOps F] [Named F]
def κ : String → Option EReal := fun
  | "ln2" => some ((Real.log 2 : ℝ) : EReal)
  | _ => none
-- ==== Reference.lean ====
abbrev S2x8192x5120 : Shape := ⟨3, ![2, 8192, 5120]⟩
abbrev S3456x5120 : Shape := ⟨2, ![3456, 5120]⟩
abbrev S27x40 : Shape := ⟨2, ![27, 40]⟩
abbrev S16384x3456 : Shape := ⟨2, ![16384, 3456]⟩
abbrev S16384x5120 : Shape := ⟨2, ![16384, 5120]⟩
abbrev S16384x40 : Shape := ⟨2, ![16384, 40]⟩
abbrev S16384x40x128 : Shape := ⟨3, ![16384, 40, 128]⟩
abbrev S16384x40x1 : Shape := ⟨3, ![16384, 40, 1]⟩
abbrev S3456x40x128 : Shape := ⟨3, ![3456, 40, 128]⟩
abbrev S40x16384x3456 : Shape := ⟨3, ![40, 16384, 3456]⟩
abbrev S40x16384 : Shape := ⟨2, ![40, 16384]⟩
abbrev S27x1x40 : Shape := ⟨3, ![27, 1, 40]⟩
abbrev S27x128x40 : Shape := ⟨3, ![27, 128, 40]⟩
abbrev S3456x40 : Shape := ⟨2, ![3456, 40]⟩
abbrev S40x3456 : Shape := ⟨2, ![40, 3456]⟩
abbrev S40x16384x1 : Shape := ⟨3, ![40, 16384, 1]⟩
abbrev S40x1x3456 : Shape := ⟨3, ![40, 1, 3456]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x5120, .bf16⟩
  | .hbm, ⟨1, _⟩ => ⟨S3456x5120, .fp8e4m3⟩
  | .hbm, ⟨2, _⟩ => ⟨S27x40, .f32⟩
  | .hbm, ⟨3, _⟩ => ⟨S16384x3456, .bf16⟩
  | .hbm, ⟨4, _⟩ => ⟨S16384x5120, .fp8e4m3⟩
  | .hbm, ⟨5, _⟩ => ⟨S16384x40, .f32⟩
  | .local _ .vmem, ⟨0, _⟩ => ⟨S2x8192x5120, .bf16⟩
  | .local _ .vmem, ⟨1, _⟩ => ⟨S3456x5120, .fp8e4m3⟩
  | .local _ .vmem, ⟨2, _⟩ => ⟨S27x40, .f32⟩
  | .local _ .vmem, ⟨3, _⟩ => ⟨S16384x3456, .bf16⟩
  | .local _ .vmem, ⟨4, _⟩ => ⟨S16384x5120, .fp8e4m3⟩
  | .local _ .vmem, ⟨5, _⟩ => ⟨S16384x40, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3456x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x3456 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Group.lean ====
/-
  ONE GROUP OF THE KERNEL. The body treats its 256-row block in 40 groups of 128 columns, each the same way. This file names what one
  group computes from its 256x128 slice of the activations (largest magnitude, exponent, scale, inverse scale, codes) and what it adds to
  the running sum, as the body's own operations, and then what the whole block computes: the codes, the scales and the running sum.
-/
module

public import proofs.«01_k».proof.Proof.Gen.KernelIdeal.Skeleton
public import Idealize.ShloMosaic.Lib.Pipeline.ValueKit.Tiles

@[expose] public section

noncomputable section

namespace Cert.KernelIdeal.Group

open Cert.KernelIdeal Cert.KernelIdeal.Gen Idealize.ShloMosaic

variable {F : FTy → Type} [FloatOps F]

/-! ## One group -/

/-- The group's activations, widened. -/
def wide (X : Vec F S256x128 .bf16) : FVec F S256x128 .f32 :=
  extf .f32 (shapeCast S256x128 X shapeCasts_S256x128_S256x128 : FVec F S256x128 .bf16) bitsLt_bf16_f32

/-- Each row's largest magnitude. -/
def absMax (X : Vec F S256x128 .bf16) : FVec F S256x1 .f32 :=
  shapeCast S256x1 (multiReduction .maximumf [1] S256 (absf (wide X)) 0xFF800000#32 reduces_S256x128_S256 (.inl rfl) rfl) shapeCasts_S256_S256x1

/-- Each row's exponent field, searched among the 256. -/
def field (v : FVec F S256x1 .f32) : FVec F S256x1 .f32 :=
  shapeCast S256x1 (multiReduction .maximumf [1] S256
    (select
      (cmpf .oge (broadcastTo S256x256 v broadcasts_S256x1_S256x256)
        (broadcastTo S256x256 (bitcastToFloat .f32 (shli (iota .tc S1x256 32 [1] iota_S1x256_d1_w32) (broadcast S1x256 23#32)) : FVec F S1x256 .f32)
          broadcasts_S1x256_S256x256))
      (broadcastTo S256x256 (shapeCast S1x256 (sitofp .f32 (iota .tc S1x256 32 [1] iota_S1x256_d1_w32) : FVec F S1x256 .f32)
        shapeCasts_S1x256_S1x256) broadcasts_S1x256_S256x256)
      (broadcast S256x256 (Scalar.ofBits .f32 0x00000000#32 : F .f32)))
    0xFF800000#32 reduces_S256x256_S256 (.inl rfl) rfl) shapeCasts_S256_S256x1

/-- Each row's exponent. -/
def expo (X : Vec F S256x128 .bf16) : IVec S256x1 32 :=
  select (cmpf .oeq (absMax X) (broadcast S256x1 (Scalar.ofBits .f32 0x00000000#32 : F .f32))) (broadcast S256x1 0#32)
    (subi (fptosi 32 (field (mulf (absMax X) (broadcast S256x1 (Scalar.ofBits .f32 0x3B124925#32 : F .f32))))) (broadcast S256x1 126#32))

/-- Each row's scale. -/
def scale (X : Vec F S256x128 .bf16) : FVec F S256x1 .f32 :=
  bitcastToFloat .f32 (shli (addi (expo X) (broadcast S256x1 127#32)) (broadcast S256x1 23#32))

/-- Each row's inverse scale. -/
def inv (X : Vec F S256x128 .bf16) : FVec F S256x1 .f32 :=
  bitcastToFloat .f32 (shli (subi (broadcast S256x1 127#32) (expo X)) (broadcast S256x1 23#32))

/-- The codes: the scaled activations, clipped and rounded. -/
def codes (X : Vec F S256x128 .bf16) : FVec F S256x128 .fp8e4m3 :=
  truncf .fp8e4m3 (minimumf (broadcast S256x128 (Scalar.ofBits .f32 0x43E00000#32 : F .f32))
    (maximumf (broadcast S256x128 (Scalar.ofBits .f32 0xC3E00000#32 : F .f32))
      (mulf (wide X) (broadcastTo S256x128 (inv X) broadcasts_S256x1_S256x128)))) bitsLt_fp8e4m3_f32

/-- What the group adds to the running sum: its product with the group's weights, times the two scales. -/
def term (X : Vec F S256x128 .bf16) (W : Vec F S3456x128 .fp8e4m3) (s : Vec F S1x3456 .f32) : FVec F S256x3456 .f32 :=
  mulf
    (mulf (matmul dot_S256x128_S3456x128_S256x3456_1_1_0_0_n_n none (codes X) W (constant S256x3456 .f32 0x00000000#32))
      (broadcastTo S256x3456 (scale X) broadcasts_S256x1_S256x3456))
    (broadcastTo S256x3456 (shapeCast S1x3456 s shapeCasts_S1x3456_S1x3456 : FVec F S1x3456 .f32) broadcasts_S1x3456_S256x3456)

/-! ## The block, group by group -/

theorem x_inb (g : Fin 40) : ∀ a, (![0, 128 * g.val] : Fin S256x5120.rank → ℕ) a + (![256, 128] : Fin S256x5120.rank → ℕ) a ≤ S256x5120.size a := by
  have := g.isLt
  intro a
  match a with
  | ⟨0, _⟩ => exact Nat.le_refl _
  | ⟨1, _⟩ => show 128 * g.val + 128 ≤ 5120; omega

theorem w_inb (g : Fin 40) : ∀ a, (![0, 128 * g.val] : Fin S3456x5120.rank → ℕ) a + (![3456, 128] : Fin S3456x5120.rank → ℕ) a ≤ S3456x5120.size a := by
  have := g.isLt
  intro a
  match a with
  | ⟨0, _⟩ => exact Nat.le_refl _
  | ⟨1, _⟩ => show 128 * g.val + 128 ≤ 5120; omega

theorem s_inb (g : Fin 40) : ∀ a, (![g.val, 0] : Fin S40x3456.rank → ℕ) a + (![1, 3456] : Fin S40x3456.rank → ℕ) a ≤ S40x3456.size a := by
  have := g.isLt
  intro a
  match a with
  | ⟨0, _⟩ => show g.val + 1 ≤ 40; omega
  | ⟨1, _⟩ => exact Nat.le_refl _

/-- Group `g`'s slice of the activations. -/
def xSlice (x0 : Vec F S256x5120 .bf16) (g : Fin 40) : Vec F S256x128 .bf16 := View.ld x0 (Rect.unit ![0, 128 * g.val] ![256, 128] (x_inb g))

/-- Group `g`'s slice of the weights. -/
def wSlice (x1 : Vec F S3456x5120 .fp8e4m3) (g : Fin 40) : Vec F S3456x128 .fp8e4m3 :=
  View.ld x1 (Rect.unit ![0, 128 * g.val] ![3456, 128] (w_inb g))

/-- Group `g`'s row of weight scales. -/
def sSlice (x2 : Vec F S40x3456 .f32) (g : Fin 40) : Vec F S1x3456 .f32 := View.ld x2 (Rect.unit ![g.val, 0] ![1, 3456] (s_inb g))

/-- What group `g` adds. -/
def termAt (x0 : Vec F S256x5120 .bf16) (x1 : Vec F S3456x5120 .fp8e4m3) (x2 : Vec F S40x3456 .f32) (g : Fin 40) : FVec F S256x3456 .f32 :=
  term (xSlice x0 g) (wSlice x1 g) (sSlice x2 g)

/-- The running sum after groups `0 … n`. -/
def acc (x0 : Vec F S256x5120 .bf16) (x1 : Vec F S3456x5120 .fp8e4m3) (x2 : Vec F S40x3456 .f32) : (n : ℕ) → n < 40 → FVec F S256x3456 .f32
  | 0, h => shapeCast S256x3456 (termAt x0 x1 x2 ⟨0, h⟩) shapeCasts_S256x3456_S256x3456
  | n + 1, h => shapeCast S256x3456 (addf (acc x0 x1 x2 n (Nat.lt_of_succ_lt h)) (termAt x0 x1 x2 ⟨n + 1, h⟩)) shapeCasts_S256x3456_S256x3456

/-- The block's result: the running sum over all groups, rounded. -/
def outBlk (x0 : Vec F S256x5120 .bf16) (x1 : Vec F S3456x5120 .fp8e4m3) (x2 : Vec F S40x3456 .f32) : FVec F S256x3456 .bf16 :=
  truncf .bf16 (acc x0 x1 x2 39 (by decide)) bitsLt_bf16_f32

end Cert.KernelIdeal.Group

end
-- ==== Proof.Blocks.lean ====
/-
  WHAT ONE STEP OF THE GRID LEAVES IN ITS THREE OUTPUT BLOCKS. The generated frame states each output block as the pieces the body stored.
  Here the 40 pieces of the codes and of the scales are read back as the group functions of Proof/Group.lean, one lemma for every piece, and
  the result block as the running sum over the groups.
-/
module

public import proofs.«01_k».proof.Proof.Gen.KernelIdeal.Value
public import proofs.«01_k».proof.Proof.Group
public import Idealize.ShloMosaic.Lib.Pipeline.ValueKit.Acc
public import Idealize.ShloMosaic.Lib.Pipeline.ValueKit.Tiles
public import Idealize.ShloMosaic.Lib.ValueIdx

@[expose] public section

set_option maxRecDepth 100000

noncomputable section

namespace Cert.KernelIdeal.Group

open Cert.KernelIdeal Cert.KernelIdeal.Gen Idealize.ShloMosaic Idealize.ShloMosaic.ValueIdx

variable {F : FTy → Type} [FloatOps F]

/-- An index of two axes by its coordinates. -/
theorem ix2_of {A B : ℕ} (x : Shape.Idx ⟨2, ![A, B]⟩) (a : Fin A) (b : Fin B) (h0 : (x 0).val = a.val) (h1 : (x 1).val = b.val) :
    x = ix2 a b := by
  rw [eq_ix2 x]
  have e0 : x 0 = a := Fin.ext h0
  have e1 : x 1 = b := Fin.ext h1
  rw [e0, e1]
  rfl

/-- The scales at a row and a group. -/
def scaleBlk (x0 : Vec F S256x5120 .bf16) : Vec F S256x40 .f32 := fun y =>
  scale (xSlice x0 ⟨(y 1).val, (y 1).isLt⟩) (ix2 ⟨(y 0).val, (y 0).isLt⟩ ⟨0, by decide⟩)

theorem col_lt (y : S256x5120.Idx) : (y 1).val / 128 < 40 := Nat.div_lt_of_lt_mul (y 1).isLt

/-- The codes at a row and a column: the column's group, at the column's place in it. -/
def codeBlk (x0 : Vec F S256x5120 .bf16) : Vec F S256x5120 .fp8e4m3 := fun y =>
  codes (xSlice x0 ⟨(y 1).val / 128, col_lt y⟩) (ix2 ⟨(y 0).val, (y 0).isLt⟩ ⟨(y 1).val % 128, Nat.mod_lt _ (by decide)⟩)

/-- A stored column of scales is the group's. -/
theorem scale_piece (x0 : Vec F S256x5120 .bf16) (y : S256x40.Idx) (x : S256x1.Idx) (g : ℕ) (h0 : (y 0).val = (x 0).val)
    (h1 : (y 1).val = g + (x 1).val) (hx : (x 1).val < 1) :
    scale (xSlice x0 ⟨g, by have : (y 1).val < 40 := (y 1).isLt; omega⟩) x = scaleBlk x0 y := by
  have e : (⟨(y 1).val, (y 1).isLt⟩ : Fin 40) = ⟨g, by have : (y 1).val < 40 := (y 1).isLt; omega⟩ :=
    Fin.ext (by show (y 1).val = g; omega)
  unfold scaleBlk
  rw [e]
  congr 1
  exact ix2_of x _ _ h0.symm (by show (x 1).val = 0; omega)

/-- A stored slab of codes is the group's: the slab at column `o` is group `o / 128`'s. -/
theorem code_piece (x0 : Vec F S256x5120 .bf16) (y : S256x5120.Idx) (x : S256x128.Idx) (o : ℕ) (h0 : (y 0).val = (x 0).val)
    (h1 : (y 1).val = o + (x 1).val) (hx : (x 1).val < 128) (ho : o % 128 = 0) :
    codes (xSlice x0 ⟨o / 128, by have : (y 1).val < 5120 := (y 1).isLt; omega⟩) x = codeBlk x0 y := by
  have e : (⟨(y 1).val / 128, col_lt y⟩ : Fin 40) = ⟨o / 128, by have : (y 1).val < 5120 := (y 1).isLt; omega⟩ :=
    Fin.ext (by show (y 1).val / 128 = o / 128; omega)
  unfold codeBlk
  rw [e]
  congr 1
  exact ix2_of x _ _ h0.symm (by show (x 1).val = (y 1).val % 128; omega)

section Outs

variable (c : Dev nD) (i : grid0.Coords) (arg1 : Memref sig .tc .vmem S256x5120 .bf16) (harg1 : arg1.IsWhole)
  (arg2 : Memref sig .tc .vmem S3456x5120 .fp8e4m3) (harg2 : arg2.IsWhole) (arg3 : Memref sig .tc .vmem S40x3456 .f32) (harg3 : arg3.IsWhole)
  (arg4 : Memref sig .tc .vmem S256x3456 .bf16) (harg4 : arg4.IsWhole) (arg5 : Memref sig .tc .vmem S256x5120 .fp8e4m3) (harg5 : arg5.IsWhole)
  (arg6 : Memref sig .tc .vmem S256x40 .f32) (harg6 : arg6.IsWhole) (arg7 : Memref sig .tc .vmem S256x3456 .f32) (harg7 : arg7.IsWhole)
  (x0 : Vec F S256x5120 .bf16) (x1 : Vec F S3456x5120 .fp8e4m3) (x2 : Vec F S40x3456 .f32)

/-- The scales' block. -/
theorem out5_eq :
    out0_A_5 c i arg1 harg1 arg2 harg2 arg3 harg3 arg4 harg4 arg5 harg5 arg6 harg6 arg7 harg7 x0 x1 x2 = scaleBlk x0 := by
  frame_out
  funext y
  canon_tiles x h
  all_goals
    first
    | exact (scale_piece x0 y x _ h0 h1 x1_lt :)
    | exact (scale_piece x0 y x 0 h0 (h1.trans (Nat.zero_add _).symm) x1_lt :)

/-- The codes' block. -/
theorem out4_eq :
    out0_A_4 c i arg1 harg1 arg2 harg2 arg3 harg3 arg4 harg4 arg5 harg5 arg6 harg6 arg7 harg7 x0 x1 x2 = codeBlk x0 := by
  frame_out
  funext y
  canon_tiles x h
  all_goals
    first
    | exact (code_piece x0 y x _ h0 h1 x1_lt rfl :)
    | exact (code_piece x0 y x 0 h0 (h1.trans (Nat.zero_add _).symm) x1_lt rfl :)

/-- The result block. -/
theorem out3_eq :
    out0_A_3 c i arg1 harg1 arg2 harg2 arg3 harg3 arg4 harg4 arg5 harg5 arg6 harg6 arg7 harg7 x0 x1 x2 = outBlk x0 x1 x2 := by
  frame_out
  rfl

end Outs

end Cert.KernelIdeal.Group

end
-- ==== Proof.Scalar.lean ====
/-
  THE QUANTISER ON ONE NUMBER. A group of 128 numbers is quantised with the power-of-two scale its largest magnitude `a` asks for.
  The kernel finds that power by comparing `a / 448` with all 256 powers of two an f32 exponent field can name, and writes the scale and
  its inverse as f32 words; the reference takes `⌊log (a / 448) / log 2⌋ + 1` and raises two to it. This file states both as functions of the
  one number `a` (`kScale`, `kInv`, `rScale`, `rInv`) and proves that they agree where `a` is zero or `a / 448` is a normal f32 (`InRange`).
-/
module

public import Idealize.ShloMosaic.PureOps.Ideal
public import Idealize.ShloMosaic.PureOps.Ideal.Laws
public import Idealize.ShloMosaic.Lib.ValueIdx
public import Mathlib.Algebra.Order.Archimedean.Basic

@[expose] public section

noncomputable section

namespace Cert.Fp8

open Idealize.ShloMosaic Idealize.ShloMosaic.ValueIdx

/-! ## The two spellings -/

/-- The f32 nearest `1 / 448`: both programs divide by 448 with it. -/
def c448 : EReal := Ideal.ofBits .f32 0x3B124925#32

/-- The f32 whose exponent field is `k` and whose other bits are clear. -/
def powerOf (k : BitVec 32) : EReal := Ideal.ofBits .f32 (IntOp.shli .vector k 23#32)

/-- The kernel's search: the largest `k` in `0 … 255` with `powerOf k ≤ v`. -/
def kField (v : EReal) : EReal :=
  Finset.univ.fold max (Ideal.ofBits .f32 0xFF800000#32) fun k : Fin 256 =>
    Scalar.select (Ideal.cmp .oge v (powerOf (BitVec.ofNat 32 k.val))) (((BitVec.ofNat 32 k.val).toInt : ℝ) : EReal)
      (Ideal.ofBits .f32 0x00000000#32)

/-- The kernel's exponent of a group whose largest magnitude is `a`. -/
def kExp (a : EReal) : BitVec 32 :=
  Scalar.select (Ideal.cmp .oeq a (Ideal.ofBits .f32 0x00000000#32)) 0#32 (Ideal.fptosi 32 (kField (a * c448)) - 126#32)

/-- The kernel's scale. -/
def kScale (a : EReal) : EReal := powerOf (kExp a + 127#32)

/-- The kernel's inverse scale. -/
def kInv (a : EReal) : EReal := powerOf (127#32 - kExp a)

/-- The reference's exponent. -/
def rExp (a : EReal) : EReal :=
  Scalar.select (Ideal.cmp .oeq a (Ideal.ofBits .f32 0x00000000#32)) (Ideal.ofBits .f32 0x00000000#32)
    (Ideal.liftRound Int.floor (Ideal.div (Ideal.log (a * c448)) ((Real.log 2 : ℝ) : EReal)) + Ideal.ofBits .f32 0x3F800000#32)

/-- The reference's scale. -/
def rScale (a : EReal) : EReal := Ideal.exp2 (rExp a)

/-- The reference's inverse scale. -/
def rInv (a : EReal) : EReal := Ideal.exp2 (Ideal.ofBits .f32 0x00000000#32 - rExp a)

/-- What the precondition says of a group's largest magnitude: it is at most the largest finite bfloat16, and it is zero or its
    448th part is at least the smallest normal f32. -/
def InRange (a : EReal) : Prop :=
  a ≤ Ideal.ofBits .f32 0x7F7F0000#32 ∧ (a = 0 ∨ Ideal.ofBits .f32 0x00800000#32 ≤ a * c448)

/-! ## The constants as reals -/

theorem c448_eq : c448 = ((9586981 * (2 : ℝ) ^ (-32 : ℤ) : ℝ) : EReal) := by
  simp [c448, Ideal.ofBits, Ideal.ieee, -EReal.coe_mul]

theorem top_eq : Ideal.ofBits .f32 0x7F7F0000#32 = ((255 * (2 : ℝ) ^ (120 : ℤ) : ℝ) : EReal) := by
  simp [Ideal.ofBits, Ideal.ieee, -EReal.coe_mul]
  norm_num

theorem one_eq : Ideal.ofBits .f32 0x3F800000#32 = ((1 : ℝ) : EReal) := by
  simp [Ideal.ofBits, Ideal.ieee, -EReal.coe_mul]
  norm_num

theorem negInf_eq : Ideal.ofBits .f32 0xFF800000#32 = ⊥ := by
  simp [Ideal.ofBits, Ideal.ieee]

/-- The bits of the word `k << 23`: a clear sign, the field `k`, a clear fraction. -/
theorem powerOf_bits : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- A word with a clear sign, a clear fraction and the field 255 is infinity. -/
theorem ieee_top (b : BitVec 32) (h2 : (b.extractLsb' 23 8).toNat = 255) (h3 : (b.extractLsb' 0 23).toNat = 0)
    (h1 : (b.extractLsb' 31 1 == 1#1) = false) : Ideal.ofBits .f32 b = ⊤ := by
  change Ideal.ieee 8 23 b = ⊤
  unfold Ideal.ieee
  simp only [h2, h3]
  simp [h1]

/-- A word with a clear sign, a clear fraction and a field `k` from 1 to 254 is a power of two. -/
theorem ieee_pow (b : BitVec 32) (k : ℕ) (hk1 : 1 ≤ k) (hk2 : k ≤ 254) (h2 : (b.extractLsb' 23 8).toNat = k)
    (h3 : (b.extractLsb' 0 23).toNat = 0) (h1 : (b.extractLsb' 31 1 == 1#1) = false) :
    Ideal.ofBits .f32 b = (((2 : ℝ) ^ ((k : ℤ) - 127) : ℝ) : EReal) := by
  change Ideal.ieee 8 23 b = _
  unfold Ideal.ieee
  simp only [h2, h3]
  rw [if_neg (by norm_num; omega), if_neg (by omega)]
  congr 1
  rw [show ((k : ℤ) - 127) = 23 + ((k : ℤ) - (2 ^ (8 - 1) - 1) - (23 : ℕ)) by norm_num,
    zpow_add₀ (by norm_num : (2 : ℝ) ≠ 0)]
  simp [h1]
  norm_num

/-- The field 255 names infinity. -/
theorem powerOf_255 : powerOf (BitVec.ofNat 32 255) = ⊤ :=
  ieee_top _ (powerOf_bits 255).2.1 (powerOf_bits 255).2.2 (powerOf_bits 255).1

/-- Every other field but 0 names a power of two. -/
theorem powerOf_eq (k : ℕ) (h1 : 1 ≤ k) (h2 : k ≤ 254) :
    powerOf (BitVec.ofNat 32 k) = (((2 : ℝ) ^ ((k : ℤ) - 127) : ℝ) : EReal) :=
  ieee_pow _ k h1 h2 (powerOf_bits ⟨k, by omega⟩).2.1 (powerOf_bits ⟨k, by omega⟩).2.2 (powerOf_bits ⟨k, by omega⟩).1

/-- A field counted in integers. -/
theorem powerOf_int (n : ℤ) (h1 : 1 ≤ n) (h2 : n ≤ 254) :
    powerOf (BitVec.ofInt 32 n) = (((2 : ℝ) ^ (n - 127) : ℝ) : EReal) := by
  obtain ⟨k, rfl⟩ : ∃ k : ℕ, n = (k : ℤ) := ⟨n.toNat, by omega⟩
  rw [BitVec.ofInt_natCast]
  exact powerOf_eq k (by omega) (by omega)

/-! ## The search -/

/-- Between the powers of fields `n` and `n + 1` the search returns `n`. -/
theorem kField_eq (v : ℝ) (n : ℕ) (h1 : 1 ≤ n) (h2 : n ≤ 253) (hlo : (2 : ℝ) ^ ((n : ℤ) - 127) ≤ v)
    (hhi : v < (2 : ℝ) ^ ((n : ℤ) + 1 - 127)) : kField (v : EReal) = ((n : ℝ) : EReal) := by
  have hint : ∀ k : Fin 256, (BitVec.ofNat 32 k.val).toInt = (k.val : ℤ) := by decide +kernel
  have hz : Ideal.ofBits .f32 0x00000000#32 = 0 := Ideal.ofBits_zero_f32
  unfold kField
  apply le_antisymm
  · rw [Finset.fold_max_le]
    refine ⟨by rw [negInf_eq]; exact bot_le, fun k _ => ?_⟩
    rw [hint k, hz]
    by_cases hk : k.val ≤ n
    · have h : ((k.val : ℝ) : EReal) ≤ ((n : ℝ) : EReal) := by exact_mod_cast hk
      have h0 : (0 : EReal) ≤ ((n : ℝ) : EReal) := by exact_mod_cast Nat.zero_le n
      unfold Scalar.select
      split_ifs
      · exact_mod_cast hk
      · exact h0
    · have hgt : (v : EReal) < powerOf (BitVec.ofNat 32 k.val) := by
        by_cases h255 : k.val = 255
        · rw [h255, powerOf_255]; exact EReal.coe_lt_top v
        · rw [powerOf_eq k.val (by omega) (by have := k.isLt; omega)]
          refine EReal.coe_lt_coe_iff.mpr (lt_of_lt_of_le hhi ?_)
          exact zpow_le_zpow_right₀ (by norm_num) (by omega)
      have hc : Ideal.cmp .oge (v : EReal) (powerOf (BitVec.ofNat 32 k.val)) = 0#1 := by
        simp [Ideal.cmp, not_le.mpr hgt]
      rw [hc, select_zero]
      exact_mod_cast Nat.zero_le n
  · rw [Finset.le_fold_max]
    refine Or.inr ⟨⟨n, by omega⟩, Finset.mem_univ _, ?_⟩
    have hc : Ideal.cmp .oge (v : EReal) (powerOf (BitVec.ofNat 32 n)) = 1#1 := by
      rw [powerOf_eq n h1 (by omega)]
      simp only [Ideal.cmp, ge_iff_le, EReal.coe_le_coe_iff, hlo, decide_true]
      rfl
    rw [hint ⟨n, by omega⟩]
    simp only [hc, select_one]
    exact_mod_cast le_rfl

/-! ## The agreement -/

theorem ofInt_sub (a b : ℤ) : BitVec.ofInt 32 (a - b) = BitVec.ofInt 32 a - BitVec.ofInt 32 b := by
  have h := BitVec.ofInt_add (n := 32) (a - b) b
  rw [sub_add_cancel] at h
  rw [h]
  exact (BitVec.add_sub_cancel _ _).symm

theorem exp2_int (q : ℤ) : Ideal.exp2 ((q : ℝ) : EReal) = (((2 : ℝ) ^ q : ℝ) : EReal) := by
  rw [Ideal.exp2_coe]
  congr 1
  exact Real.rpow_intCast 2 q

/-- The floor of the binary logarithm between two powers of two. -/
theorem floor_log (v : ℝ) (q : ℤ) (hlo : (2 : ℝ) ^ q ≤ v) (hhi : v < (2 : ℝ) ^ (q + 1)) :
    Ideal.liftRound Int.floor (Ideal.div (Ideal.log (v : EReal)) ((Real.log 2 : ℝ) : EReal)) = ((q : ℝ) : EReal) := by
  have hp : (0 : ℝ) < (2 : ℝ) ^ q := zpow_pos (by norm_num) q
  have hv : 0 < v := lt_of_lt_of_le hp hlo
  have hl2 : 0 < Real.log 2 := Real.log_pos (by norm_num)
  rw [Ideal.log_coe, if_neg (not_le.mpr hv), Ideal.div_coe hl2.ne', ← EReal.coe_mul, mul_one_div, Ideal.liftRound_coe]
  congr 2
  rw [Int.floor_eq_iff]
  have e1 := Real.log_le_log hp hlo
  have e2 := Real.log_lt_log hv hhi
  rw [Real.log_zpow] at e1 e2
  push_cast at e2
  exact ⟨by rw [le_div_iff₀ hl2]; exact e1, by rw [div_lt_iff₀ hl2]; exact e2⟩

/-- A group of zeros takes the scale one on both sides. -/
theorem scales_zero : kScale 0 = 1 ∧ kInv 0 = 1 ∧ rScale 0 = 1 ∧ rInv 0 = 1 := by
  have hz : Ideal.ofBits .f32 0x00000000#32 = 0 := Ideal.ofBits_zero_f32
  have hc : Ideal.cmp .oeq (0 : EReal) 0 = 1#1 := by simp [Ideal.cmp]
  have he : kExp 0 = 0#32 := by unfold kExp; rw [hz, hc, select_one]
  have hr : rExp 0 = 0 := by unfold rExp; rw [hz, hc, select_one]
  have hp : powerOf 127#32 = 1 := by
    rw [show (127#32 : BitVec 32) = BitVec.ofNat 32 127 from rfl, powerOf_eq 127 (by norm_num) (by norm_num)]
    norm_num
  have h0 : Ideal.exp2 0 = 1 := by
    have := exp2_int 0
    simpa using this
  refine ⟨?_, ?_, ?_, ?_⟩
  · unfold kScale; rw [he]; exact hp
  · unfold kInv; rw [he]; exact hp
  · unfold rScale; rw [hr]; exact h0
  · unfold rInv; rw [hr, hz, sub_zero]; exact h0

/-- A group in range has a largest magnitude that is zero, or whose 448th part lies between two neighbouring powers of two. -/
theorem InRange.cases {a : EReal} (h : InRange a) :
    a = 0 ∨ (a ≠ 0 ∧ ∃ (v : ℝ) (q : ℤ), a * c448 = (v : EReal) ∧ (2 : ℝ) ^ q ≤ v ∧ v < (2 : ℝ) ^ (q + 1) ∧ -126 ≤ q ∧ q ≤ 119) := by
  obtain ⟨htop, h0 | hlow⟩ := h
  · exact Or.inl h0
  by_cases ha : a = 0
  · exact Or.inl ha
  refine Or.inr ⟨ha, ?_⟩
  have hmin : Ideal.ofBits .f32 0x00800000#32 = (((2 : ℝ) ^ (-126 : ℤ) : ℝ) : EReal) := powerOf_eq 1 (by norm_num) (by norm_num)
  rw [hmin] at hlow
  rw [top_eq] at htop
  rw [c448_eq] at hlow ⊢
  induction a using EReal.rec with
  | bot =>
    rw [EReal.bot_mul_coe_of_pos (by positivity)] at hlow
    exact absurd hlow (not_le.mpr (EReal.bot_lt_coe _))
  | top => exact absurd htop (not_le.mpr (EReal.coe_lt_top _))
  | coe a =>
    rw [← EReal.coe_mul] at hlow ⊢
    rw [EReal.coe_le_coe_iff] at hlow htop
    set v : ℝ := a * (9586981 * (2 : ℝ) ^ (-32 : ℤ)) with hv
    have hvpos : 0 < v := lt_of_lt_of_le (by positivity) hlow
    obtain ⟨q, hq1, hq2⟩ := exists_mem_Ico_zpow hvpos (by norm_num : (1 : ℝ) < 2)
    refine ⟨v, q, rfl, hq1, hq2, ?_, ?_⟩
    · have := lt_of_le_of_lt hlow hq2
      rw [zpow_lt_zpow_iff_right₀ (by norm_num)] at this
      omega
    · have hle : v ≤ 255 * (2 : ℝ) ^ (120 : ℤ) * (9586981 * (2 : ℝ) ^ (-32 : ℤ)) :=
        mul_le_mul_of_nonneg_right htop (by positivity)
      have hlt : (255 : ℝ) * (2 : ℝ) ^ (120 : ℤ) * (9586981 * (2 : ℝ) ^ (-32 : ℤ)) < (2 : ℝ) ^ (120 : ℤ) := by norm_num
      have := lt_of_le_of_lt hq1 (lt_of_le_of_lt hle hlt)
      rw [zpow_lt_zpow_iff_right₀ (by norm_num)] at this
      omega

/-- In range, the kernel's scale and inverse scale are the reference's. -/
theorem scales_agree {a : EReal} (h : InRange a) : kScale a = rScale a ∧ kInv a = rInv a := by
  rcases h.cases with rfl | ⟨ha, v, q, hv, hlo, hhi, hq1, hq2⟩
  · obtain ⟨h1, h2, h3, h4⟩ := scales_zero
    exact ⟨h1.trans h3.symm, h2.trans h4.symm⟩
  have hz : Ideal.ofBits .f32 0x00000000#32 = 0 := Ideal.ofBits_zero_f32
  have hc : Ideal.cmp .oeq a (0 : EReal) = 0#1 := by simp [Ideal.cmp, ha]
  obtain ⟨n, hn⟩ : ∃ n : ℕ, q + 127 = (n : ℤ) := ⟨(q + 127).toNat, by omega⟩
  have hqn : q = (n : ℤ) - 127 := by omega
  have hfield : kField (a * c448) = ((n : ℝ) : EReal) := by
    rw [hv]
    refine kField_eq v n (by omega) (by omega) (by rw [← hqn]; exact hlo) ?_
    rw [show (n : ℤ) + 1 - 127 = q + 1 by omega]
    exact hhi
  have hfp : Ideal.fptosi 32 ((n : ℝ) : EReal) = BitVec.ofInt 32 (n : ℤ) := by
    unfold Ideal.fptosi
    congr 1
    rw [Ideal.toIntClamped_coe, if_pos (Nat.cast_nonneg n), Int.floor_natCast]
    norm_num
    omega
  have hke : kExp a = BitVec.ofInt 32 (q + 1) := by
    unfold kExp
    rw [hz, hc, select_zero, hfield, hfp, show (126#32 : BitVec 32) = BitVec.ofInt 32 126 from rfl, ← ofInt_sub]
    congr 1
    omega
  have hre : rExp a = (((q + 1 : ℤ) : ℝ) : EReal) := by
    unfold rExp
    rw [hz, hc, select_zero, hv, floor_log v q hlo hhi, one_eq, ← EReal.coe_add]
    push_cast
    rfl
  constructor
  · unfold kScale rScale
    rw [hke, hre, exp2_int, show (127#32 : BitVec 32) = BitVec.ofInt 32 127 from rfl, ← BitVec.ofInt_add,
      powerOf_int _ (by omega) (by omega)]
    congr 2
    omega
  · unfold kInv rInv
    rw [hke, hre, hz, zero_sub, ← EReal.coe_neg, ← Int.cast_neg, exp2_int, show (127#32 : BitVec 32) = BitVec.ofInt 32 127 from rfl,
      ← ofInt_sub, powerOf_int _ (by omega) (by omega)]
    congr 2
    omega

end Cert.Fp8

end
-- ==== Proof.Spec.lean ====
/-
  THE LAYER AS FUNCTIONS OF ROWS AND COLUMNS. With the activations `x`, the weight codes `w` and the weight scales `s` (already one per output
  column) as plain functions, this file writes the codes, and the layer's result as a sum over groups, with the scale of a group left open as
  a function of the group's largest magnitude. The kernel is this with the scale read from f32 words, the reference with powers of two.
-/
module

public import proofs.«01_k».proof.Proof.Scalar

@[expose] public section

noncomputable section

namespace Cert.Fp8

open Idealize.ShloMosaic Idealize.ShloMosaic.ValueIdx

/-- Column `k` of group `g`. -/
def col (g : Fin 40) (k : Fin 128) : Fin 5120 := ⟨128 * g.val + k.val, by have := g.isLt; have := k.isLt; omega⟩

/-- The group of a column. -/
def groupOf (c : Fin 5120) : Fin 40 := ⟨c.val / 128, Nat.div_lt_of_lt_mul c.isLt⟩

/-- The activations, a 2x8192x5120 array, by row of the flattened 16384 and column. -/
def rows (a : (⟨3, ![2, 8192, 5120]⟩ : Shape).Idx → EReal) (r : Fin 16384) (c : Fin 5120) : EReal :=
  a (ix3 ⟨r.val / 8192, Nat.div_lt_of_lt_mul r.isLt⟩ ⟨r.val % 8192, Nat.mod_lt _ (by decide)⟩ c)

/-- The weight codes by output column and input column. -/
def weights (a : (⟨2, ![3456, 5120]⟩ : Shape).Idx → EReal) (o : Fin 3456) (c : Fin 5120) : EReal := a (ix2 o c)

/-- The weight scales by output column and group: one per block of 128 output columns. -/
def wscales (a : (⟨2, ![27, 40]⟩ : Shape).Idx → EReal) (o : Fin 3456) (g : Fin 40) : EReal :=
  a (ix2 ⟨o.val / 128, Nat.div_lt_of_lt_mul o.isLt⟩ g)

/-- The largest magnitude of 128 numbers. -/
def maxAbs (f : Fin 128 → EReal) : EReal :=
  Finset.univ.fold max (Ideal.ofBits .f32 0xFF800000#32) fun k => max (f k) (-(f k))

/-- The largest magnitude of a row's group. -/
def rowMax {M : ℕ} (x : Fin M → Fin 5120 → EReal) (r : Fin M) (g : Fin 40) : EReal := maxAbs fun k => x r (col g k)

/-- A scaled number, clipped to the range of the codes. -/
def clip (v : EReal) : EReal := min (Ideal.ofBits .f32 0x43E00000#32) (max (Ideal.ofBits .f32 0xC3E00000#32) v)

/-- The code at a row and a column, `inv` the inverse scale. -/
def code {M : ℕ} (inv : EReal → EReal) (x : Fin M → Fin 5120 → EReal) (r : Fin M) (c : Fin 5120) : EReal :=
  clip (x r c * inv (rowMax x r (groupOf c)))

/-- The layer's result at a row and an output column: over the groups, the product of codes and weights times both scales. -/
def layer {M : ℕ} (sc inv : EReal → EReal) (x : Fin M → Fin 5120 → EReal) (w : Fin 3456 → Fin 5120 → EReal) (s : Fin 3456 → Fin 40 → EReal)
    (r : Fin M) (o : Fin 3456) : EReal :=
  ∑ g : Fin 40, (∑ k : Fin 128, code inv x r (col g k) * w o (col g k)) * sc (rowMax x r g) * s o g

theorem groupOf_col (g : Fin 40) (k : Fin 128) : groupOf (col g k) = g :=
  Fin.ext (by show (128 * g.val + k.val) / 128 = g.val; have := k.isLt; omega)

/-- A row's largest magnitudes, codes and results depend on that row alone. -/
theorem rowMax_row {M N : ℕ} {x : Fin M → Fin 5120 → EReal} {x' : Fin N → Fin 5120 → EReal} {r : Fin M} {r' : Fin N}
    (h : ∀ c, x r c = x' r' c) (g : Fin 40) : rowMax x r g = rowMax x' r' g := by
  unfold rowMax
  simp only [h]

theorem code_row {M N : ℕ} (inv : EReal → EReal) {x : Fin M → Fin 5120 → EReal} {x' : Fin N → Fin 5120 → EReal} {r : Fin M} {r' : Fin N}
    (h : ∀ c, x r c = x' r' c) (c : Fin 5120) : code inv x r c = code inv x' r' c := by
  unfold code
  rw [rowMax_row h, h]

theorem layer_row {M N : ℕ} (sc inv : EReal → EReal) {x : Fin M → Fin 5120 → EReal} {x' : Fin N → Fin 5120 → EReal}
    (w : Fin 3456 → Fin 5120 → EReal) (s : Fin 3456 → Fin 40 → EReal) {r : Fin M} {r' : Fin N}
    (h : ∀ c, x r c = x' r' c) (o : Fin 3456) : layer sc inv x w s r o = layer sc inv x' w s r' o := by
  unfold layer
  simp only [code_row inv h, rowMax_row h]

/-- Where every group is in range the two spellings of the scale give the same codes … -/
theorem code_agree {M : ℕ} (x : Fin M → Fin 5120 → EReal) (h : ∀ r g, InRange (rowMax x r g)) (r : Fin M) (c : Fin 5120) :
    code kInv x r c = code rInv x r c := by
  unfold code
  rw [(scales_agree (h r (groupOf c))).2]

/-- … and the same result. -/
theorem layer_agree {M : ℕ} (x : Fin M → Fin 5120 → EReal) (w : Fin 3456 → Fin 5120 → EReal) (s : Fin 3456 → Fin 40 → EReal)
    (h : ∀ r g, InRange (rowMax x r g)) (r : Fin M) (o : Fin 3456) :
    layer kScale kInv x w s r o = layer rScale rInv x w s r o := by
  unfold layer
  refine Finset.sum_congr rfl fun g _ => ?_
  rw [(scales_agree (h r g)).1]
  simp only [code_agree x h]

end Cert.Fp8

end
-- ==== Proof.GroupValue.lean ====
/-
  ONE GROUP OF THE KERNEL, NUMBER BY NUMBER. The group functions of Proof/Group.lean, read at an index at the ideal values: each is the one-number
  function of Proof/Scalar.lean at the row's largest magnitude, and the group's term is the sum over its 128 columns times the two scales.
-/
module

public import proofs.«01_k».proof.Proof.Group
public import proofs.«01_k».proof.Proof.Spec
public import Idealize.ShloMosaic.Lib.Pipeline.Value
public import Idealize.ShloMosaic.Lib.MatmulPlain
public import Idealize.ShloMosaic.Lib.ValueIdx

@[expose] public section

noncomputable section

namespace Cert.KernelIdeal.Group

open Cert.KernelIdeal Cert.KernelIdeal.Gen Cert.Fp8 Idealize.ShloMosaic Idealize.ShloMosaic.ValueIdx

/-- A row's largest magnitude in a slice. -/
def sliceMax (X : Vec Ideal S256x128 .bf16) (r : Fin 256) : EReal := maxAbs fun k => X (ix2 r k)

theorem wide_apply (X : Vec Ideal S256x128 .bf16) (j : S256x128.Idx) : wide X j = X j := by
  unfold wide
  rw [shapeCast_self]
  rfl

/-- A vector of one number per row, as a column, read at a row. -/
theorem column_apply {α : Type} (v : S256.Idx → α) (r : Fin 256) (z : Fin 1) :
    shapeCast S256x1 v shapeCasts_S256_S256x1 (ix2 r z) = v (ix1 r) := by
  refine shapeCast_apply v _ _ _ ?_
  rw [Shape.rowMajor_val_one, Shape.rowMajor_val_two]
  show r.val = r.val * 1 + z.val
  omega

theorem absMax_apply (X : Vec Ideal S256x128 .bf16) (r : Fin 256) (z : Fin 1) : absMax X (ix2 r z) = sliceMax X r := by
  unfold absMax
  rw [column_apply]
  refine (Ideal.multiReduction_maximumf_single _ _ _ _ _ _).trans ?_
  unfold sliceMax maxAbs
  refine Finset.fold_congr fun (k : Fin 128) _ => ?_
  show max (wide X _) (-(wide X _)) = _
  have e : reduces_S256x128_S256.lift (ix1 r) k = ix2 r k := by
    funext a
    match a with
    | ⟨0, _⟩ => rfl
    | ⟨1, _⟩ => rfl
  rw [wide_apply, e]

/-- A row of numbers laid over 256 rows. -/
theorem row_over (x : S1x256.Idx → EReal) (r : Fin 256) (k : Fin 256) :
    broadcastTo S256x256 x broadcasts_S1x256_S256x256 (ix2 r k) = x (ix2 ⟨0, by decide⟩ k) := by
  refine broadcastTo_apply x _ _ _ fun a => ?_
  match a with
  | ⟨0, _⟩ => rfl
  | ⟨1, _⟩ => rfl

/-- A column of numbers laid over 256 columns. -/
theorem col_over (x : S256x1.Idx → EReal) (r : Fin 256) (k : Fin 256) :
    broadcastTo S256x256 x broadcasts_S256x1_S256x256 (ix2 r k) = x (ix2 r ⟨0, by decide⟩) := by
  refine broadcastTo_apply x _ _ _ fun a => ?_
  match a with
  | ⟨0, _⟩ => rfl
  | ⟨1, _⟩ => rfl

theorem field_apply (v : FVec Ideal S256x1 .f32) (r : Fin 256) (z : Fin 1) : field v (ix2 r z) = kField (v (ix2 r ⟨0, by decide⟩)) := by
  unfold field
  rw [column_apply]
  refine (Ideal.multiReduction_maximumf_single _ _ _ _ _ _).trans ?_
  unfold kField
  refine Finset.fold_congr fun (k : Fin 256) _ => ?_
  have e : reduces_S256x256_S256.lift (ix1 r) k = ix2 r k := by
    funext a
    match a with
    | ⟨0, _⟩ => rfl
    | ⟨1, _⟩ => rfl
  have hi : iota .tc S1x256 32 [1] iota_S1x256_d1_w32 (ix2 ⟨0, by decide⟩ k) = BitVec.ofNat 32 k.val := iota_single_apply _ _ _ _ _ _
  show select _ _ _ (reduces_S256x256_S256.lift (ix1 r) k) = _
  rw [e, select_apply, cmpf_apply, col_over, row_over, row_over, shapeCast_self]
  show Scalar.select (Ideal.cmp .oge _ (Ideal.ofBits .f32 (IntOp.shli .vector (iota .tc S1x256 32 [1] iota_S1x256_d1_w32 (ix2 ⟨0, by decide⟩ k)) 23#32)))
    (((iota .tc S1x256 32 [1] iota_S1x256_d1_w32 (ix2 ⟨0, by decide⟩ k)).toInt : ℝ) : EReal) _ = _
  rw [hi]
  rfl

theorem expo_apply (X : Vec Ideal S256x128 .bf16) (r : Fin 256) (z : Fin 1) : expo X (ix2 r z) = kExp (sliceMax X r) := by
  have h2 : mulf (absMax X) (broadcast S256x1 (Scalar.ofBits .f32 0x3B124925#32 : Ideal .f32)) (ix2 r ⟨0, by decide⟩) = sliceMax X r * c448 := by
    show absMax X (ix2 r ⟨0, by decide⟩) * c448 = _
    rw [absMax_apply]
  have h1 := field_apply (mulf (absMax X) (broadcast S256x1 (Scalar.ofBits .f32 0x3B124925#32 : Ideal .f32))) r z
  rw [h2] at h1
  have h3 : expo X (ix2 r z) = Scalar.select (cmpf .oeq (absMax X) (broadcast S256x1 (Scalar.ofBits .f32 0x00000000#32 : Ideal .f32)) (ix2 r z)) 0#32
      (fptosi 32 (field (mulf (absMax X) (broadcast S256x1 (Scalar.ofBits .f32 0x3B124925#32 : Ideal .f32)))) (ix2 r z) - 126#32) := rfl
  have h4 : fptosi 32 (field (mulf (absMax X) (broadcast S256x1 (Scalar.ofBits .f32 0x3B124925#32 : Ideal .f32)))) (ix2 r z)
      = Ideal.fptosi 32 (field (mulf (absMax X) (broadcast S256x1 (Scalar.ofBits .f32 0x3B124925#32 : Ideal .f32))) (ix2 r z)) := rfl
  rw [h3, h4, h1, cmpf_apply, absMax_apply]
  rfl

theorem scale_apply (X : Vec Ideal S256x128 .bf16) (r : Fin 256) (z : Fin 1) : scale X (ix2 r z) = kScale (sliceMax X r) := by
  show Ideal.ofBits .f32 (IntOp.shli .vector (expo X (ix2 r z) + 127#32) 23#32) = _
  rw [expo_apply]
  rfl

theorem inv_apply (X : Vec Ideal S256x128 .bf16) (r : Fin 256) (z : Fin 1) : inv X (ix2 r z) = kInv (sliceMax X r) := by
  show Ideal.ofBits .f32 (IntOp.shli .vector (127#32 - expo X (ix2 r z)) 23#32) = _
  rw [expo_apply]
  rfl

theorem codes_apply (X : Vec Ideal S256x128 .bf16) (r : Fin 256) (k : Fin 128) :
    codes X (ix2 r k) = clip (X (ix2 r k) * kInv (sliceMax X r)) := by
  have hb : broadcastTo S256x128 (inv X) broadcasts_S256x1_S256x128 (ix2 r k) = inv X (ix2 r ⟨0, by decide⟩) := by
    refine broadcastTo_apply _ _ _ _ fun a => ?_
    match a with
    | ⟨0, _⟩ => rfl
    | ⟨1, _⟩ => rfl
  show min _ (max _ (wide X (ix2 r k) * broadcastTo S256x128 (inv X) broadcasts_S256x1_S256x128 (ix2 r k))) = _
  rw [hb, wide_apply, inv_apply]
  rfl

theorem term_apply (X : Vec Ideal S256x128 .bf16) (W : Vec Ideal S3456x128 .fp8e4m3) (s : Vec Ideal S1x3456 .f32) (r : Fin 256) (o : Fin 3456) :
    term X W s (ix2 r o) = (∑ k : Fin 128, clip (X (ix2 r k) * kInv (sliceMax X r)) * W (ix2 o k)) * kScale (sliceMax X r) * s (ix2 ⟨0, by decide⟩ o) := by
  have hs : broadcastTo S256x3456 (scale X) broadcasts_S256x1_S256x3456 (ix2 r o) = scale X (ix2 r ⟨0, by decide⟩) := by
    refine broadcastTo_apply _ _ _ _ fun a => ?_
    match a with
    | ⟨0, _⟩ => rfl
    | ⟨1, _⟩ => rfl
  have hw : broadcastTo S256x3456 s broadcasts_S1x3456_S256x3456 (ix2 r o) = s (ix2 ⟨0, by decide⟩ o) := by
    refine broadcastTo_apply _ _ _ _ fun a => ?_
    match a with
    | ⟨0, _⟩ => rfl
    | ⟨1, _⟩ => rfl
  have hd : dot_S256x128_S3456x128_S256x3456_1_1_0_0_n_n = DotDims.transposedRhs 256 128 3456 := rfl
  unfold term
  rw [mulf_apply, mulf_apply, shapeCast_self, hs, hw, scale_apply, hd]
  have hm := Ideal.matmul_transposedRhs_apply (φ₁ := .fp8e4m3) (φ₂ := .fp8e4m3) none (codes X) W
    (constant S256x3456 .f32 0x00000000#32) r o
  rw [show (constant S256x3456 .f32 0x00000000#32 : FVec Ideal S256x3456 .f32) (ix2 r o) = 0 from Ideal.ofBits_zero_f32, zero_add] at hm
  refine congrArg₂ _ (congrArg₂ _ (hm.trans ?_) rfl) rfl
  exact Finset.sum_congr rfl fun k _ => by rw [codes_apply]

end Cert.KernelIdeal.Group

end
-- ==== Proof.BlockValue.lean ====
/-
  ONE BLOCK OF THE KERNEL, NUMBER BY NUMBER. The three output blocks of Proof/Blocks.lean, read at an index at the ideal values, are the
  functions of Proof/Spec.lean of the block's rows: the scales, the codes, and the sum over the groups that the running sum builds up.
-/
module

public import proofs.«01_k».proof.Proof.Blocks
public import proofs.«01_k».proof.Proof.GroupValue

@[expose] public section

noncomputable section

namespace Cert.KernelIdeal.Group

open Cert.KernelIdeal Cert.KernelIdeal.Gen Cert.Fp8 Idealize.ShloMosaic Idealize.ShloMosaic.ValueIdx

/-- A block's rows as a function. -/
def blkRows (x0 : Vec Ideal S256x5120 .bf16) (r : Fin 256) (c : Fin 5120) : EReal := x0 (ix2 r c)

/-- A block's weights as a function. -/
def blkWeights (x1 : Vec Ideal S3456x5120 .fp8e4m3) (o : Fin 3456) (c : Fin 5120) : EReal := x1 (ix2 o c)

/-- A block's weight scales as a function. -/
def blkScales (x2 : Vec Ideal S40x3456 .f32) (o : Fin 3456) (g : Fin 40) : EReal := x2 (ix2 g o)

theorem xSlice_apply (x0 : Vec Ideal S256x5120 .bf16) (g : Fin 40) (r : Fin 256) (k : Fin 128) :
    xSlice x0 g (ix2 r k) = blkRows x0 r (col g k) := by
  refine congrArg x0 (ix2_of _ _ _ ?_ ?_)
  · exact (Rect.idx_unit_val _ _ _ _ _).trans (Nat.zero_add _)
  · exact Rect.idx_unit_val _ _ _ _ _

theorem wSlice_apply (x1 : Vec Ideal S3456x5120 .fp8e4m3) (g : Fin 40) (o : Fin 3456) (k : Fin 128) :
    wSlice x1 g (ix2 o k) = blkWeights x1 o (col g k) := by
  refine congrArg x1 (ix2_of _ _ _ ?_ ?_)
  · exact (Rect.idx_unit_val _ _ _ _ _).trans (Nat.zero_add _)
  · exact Rect.idx_unit_val _ _ _ _ _

theorem sSlice_apply (x2 : Vec Ideal S40x3456 .f32) (g : Fin 40) (z : Fin 1) (o : Fin 3456) :
    sSlice x2 g (ix2 z o) = blkScales x2 o g := by
  refine congrArg x2 (ix2_of _ _ _ ?_ ?_)
  · refine (Rect.idx_unit_val _ _ _ _ _).trans ?_
    show g.val + z.val = g.val
    omega
  · exact (Rect.idx_unit_val _ _ _ _ _).trans (Nat.zero_add _)

theorem sliceMax_xSlice (x0 : Vec Ideal S256x5120 .bf16) (g : Fin 40) (r : Fin 256) : sliceMax (xSlice x0 g) r = rowMax (blkRows x0) r g := by
  unfold sliceMax rowMax
  simp only [xSlice_apply]

/-- The scales' block. -/
theorem scaleBlk_apply (x0 : Vec Ideal S256x5120 .bf16) (r : Fin 256) (g : Fin 40) :
    scaleBlk x0 (ix2 r g) = kScale (rowMax (blkRows x0) r g) := by
  show scale (xSlice x0 g) (ix2 r _) = _
  rw [scale_apply, sliceMax_xSlice]

/-- The codes' block. -/
theorem codeBlk_apply (x0 : Vec Ideal S256x5120 .bf16) (r : Fin 256) (c : Fin 5120) :
    codeBlk x0 (ix2 r c) = code kInv (blkRows x0) r c := by
  have e : col (groupOf c) ⟨c.val % 128, Nat.mod_lt _ (by decide)⟩ = c :=
    Fin.ext (by show 128 * (c.val / 128) + c.val % 128 = c.val; omega)
  show codes (xSlice x0 (groupOf c)) (ix2 r ⟨c.val % 128, Nat.mod_lt _ (by decide)⟩) = _
  rw [codes_apply, sliceMax_xSlice, xSlice_apply, e]
  rfl

/-- What group `g` adds. -/
theorem termAt_apply (x0 : Vec Ideal S256x5120 .bf16) (x1 : Vec Ideal S3456x5120 .fp8e4m3) (x2 : Vec Ideal S40x3456 .f32) (g : Fin 40)
    (r : Fin 256) (o : Fin 3456) :
    termAt x0 x1 x2 g (ix2 r o) = (∑ k : Fin 128, code kInv (blkRows x0) r (col g k) * blkWeights x1 o (col g k))
      * kScale (rowMax (blkRows x0) r g) * blkScales x2 o g := by
  unfold termAt
  rw [term_apply, sliceMax_xSlice, sSlice_apply]
  refine congrArg (fun v => v * kScale (rowMax (blkRows x0) r g) * blkScales x2 o g) (Finset.sum_congr rfl fun k _ => ?_)
  rw [xSlice_apply, wSlice_apply]
  unfold code
  rw [groupOf_col]

/-- The running sum after group `n` is the sum of the groups' terms so far. -/
theorem acc_apply (x0 : Vec Ideal S256x5120 .bf16) (x1 : Vec Ideal S3456x5120 .fp8e4m3) (x2 : Vec Ideal S40x3456 .f32) (j : S256x3456.Idx) :
    ∀ (n : ℕ) (h : n < 40), acc x0 x1 x2 n h j = ∑ g : Fin (n + 1), termAt x0 x1 x2 ⟨g.val, by have := g.isLt; omega⟩ j
  | 0, h => by
    unfold acc
    rw [shapeCast_self, Fin.sum_univ_one]
    rfl
  | n + 1, h => by
    unfold acc
    rw [shapeCast_self, Fin.sum_univ_castSucc, addf_apply, acc_apply x0 x1 x2 j n (Nat.lt_of_succ_lt h)]
    rfl

/-- The result block. -/
theorem outBlk_apply (x0 : Vec Ideal S256x5120 .bf16) (x1 : Vec Ideal S3456x5120 .fp8e4m3) (x2 : Vec Ideal S40x3456 .f32)
    (r : Fin 256) (o : Fin 3456) :
    outBlk x0 x1 x2 (ix2 r o) = layer kScale kInv (blkRows x0) (blkWeights x1) (blkScales x2) r o := by
  show acc x0 x1 x2 39 _ (ix2 r o) = _
  rw [acc_apply]
  exact Finset.sum_congr rfl fun g _ => termAt_apply x0 x1 x2 g r o

end Cert.KernelIdeal.Group

end
-- ==== Proof.KernelValue.lean ====
/-
  THE KERNEL'S THREE RESULT ARRAYS, NUMBER BY NUMBER. The 64 grid points write blocks of 256 rows each; together they are the functions of
  Proof/Spec.lean of the arguments, with the kernel's scale and the kernel's factor. The two host reshapes before the kernel — the flattened
  rows, and the weight scales repeated over the 128 columns of their block — are read at an index here.
-/
module

public import proofs.«01_k».proof.Proof.BlockValue
public import proofs.«01_k».proof.Proof.Gen.KernelIdeal.Value
public import Idealize.ShloMosaic.Lib.Pipeline.ValueKit
public import Idealize.ShloMosaic.Lib.ValueLayout

@[expose] public section

noncomputable section

namespace Cert.KernelIdeal.Group

open Cert.KernelIdeal Cert.KernelIdeal.Gen Cert.Fp8 Idealize.ShloMosaic.ValueIdx Idealize.ShloMosaic.TcCoe
open Idealize.ShloMosaic hiding ix2 ix3 eq_ix2

variable (m : (ℓ : Loc nD τ sig) → Buf (Elt Ideal) ℓ)

/-- The flattened activations the kernel is handed. -/
theorem V_rows (c : Dev nD) (r : Fin 16384) (k : Fin 5120) :
    (V m c main_v4 : Vec Ideal S16384x5120 .bf16) (ix2 r k) = rows (m ((c : Thread nD τ).loc main_arg0)) r k := by
  have h : (V m c main_v4 : Vec Ideal S16384x5120 .bf16)
      = shapeCast S16384x5120 (m ((c : Thread nD τ).loc main_arg0) : Vec Ideal S2x8192x5120 .bf16) shapeCasts_S2x8192x5120_S16384x5120 := by
    show StableHlo.after hostOps0 _ (Proc.devRef .tc main_v4) = _
    after_results
    rfl
  rw [h]
  unfold rows
  refine shapeCast_apply (s := S2x8192x5120) _ _ _ _ ?_
  rw [Shape.rowMajor_val_three, Shape.rowMajor_val_two]
  show (r.val / 8192 * 8192 + r.val % 8192) * 5120 + k.val = r.val * 5120 + k.val
  rw [Nat.div_add_mod']

/-- The repeated weight scales the kernel is handed. -/
theorem V_scales (c : Dev nD) (g : Fin 40) (o : Fin 3456) :
    (V m c main_v3 : Vec Ideal S40x3456 .f32) (ix2 g o) = wscales (m ((c : Thread nD τ).loc main_arg2)) o g := by
  have h : (V m c main_v3 : Vec Ideal S40x3456 .f32)
      = shapeCast S40x3456 (broadcastInDim S40x27x128 ![0, 1, 2] bcast_S40x27x1_S40x27x128_0_1_2
          (broadcastInDim S40x27x1 ![0, 1] bcast_S40x27_S40x27x1_0_1
            (transpose S40x27 [1, 0] (m ((c : Thread nD τ).loc main_arg2) : Vec Ideal S27x40 .f32) transposes_S27x40_S40x27_1_0)
              : Vec Ideal S40x27x1 .f32) : Vec Ideal S40x27x128 .f32) shapeCasts_S40x27x128_S40x3456 := by
    show StableHlo.after hostOps0 _ (Proc.devRef .tc main_v3) = _
    after_results
    rfl
  rw [h]
  unfold wscales
  refine (shapeCast_apply _ _ _ (ix3 g ⟨o.val / 128, Nat.div_lt_of_lt_mul o.isLt⟩ ⟨o.val % 128, Nat.mod_lt _ (by decide)⟩) ?_).trans ?_
  · rw [Shape.rowMajor_val_three, Shape.rowMajor_val_two]
    show (g.val * 27 + o.val / 128) * 128 + o.val % 128 = g.val * 3456 + o.val
    omega
  · refine (congrArg (transpose S40x27 [1, 0] (m ((c : Thread nD τ).loc main_arg2) : Vec Ideal S27x40 .f32) transposes_S27x40_S40x27_1_0)
      (ix2_of (A := 40) (B := 27) _ g ⟨o.val / 128, Nat.div_lt_of_lt_mul o.isLt⟩ rfl rfl)).trans ?_
    exact transpose_ix2_apply _ _ _ _

theorem index0 : ∀ t : Fin cfg0.N, win0_0.index t = ![(grid0.coords t 0).val, 0] :=
  (by decide +kernel : ∀ t : Fin grid0.N, win0_0.index t = ![(grid0.coords t 0).val, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![(grid0.coords t 0).val, 0] :=
  (by decide +kernel : ∀ t : Fin grid0.N, win0_3.index t = ![(grid0.coords t 0).val, 0])

theorem index4 : ∀ t : Fin cfg0.N, win0_4.index t = ![(grid0.coords t 0).val, 0] :=
  (by decide +kernel : ∀ t : Fin grid0.N, win0_4.index t = ![(grid0.coords t 0).val, 0])

theorem index5 : ∀ t : Fin cfg0.N, win0_5.index t = ![(grid0.coords t 0).val, 0] :=
  (by decide +kernel : ∀ t : Fin grid0.N, win0_5.index t = ![(grid0.coords t 0).val, 0])

theorem coord_lt : ∀ t : Fin cfg0.N, (grid0.coords t 0).val < 64 :=
  (by decide +kernel : ∀ t : Fin grid0.N, (grid0.coords t 0).val < 64)

/-- Row `r` of block `t`, in the whole array. -/
def bigRow (t : Fin cfg0.N) (r : Fin 256) : Fin 16384 :=
  ⟨(grid0.coords t 0).val * 256 + r.val, by have := coord_lt t; omega⟩

/-- The activations' block of grid point `t`: rows `256 t …`. -/
theorem blkRows_apply (c : Dev nD) (t : Fin cfg0.N) (r : Fin 256) (k : Fin 5120) :
    blkRows (iblk m c 0 t) r k = rows (m ((c : Thread nD τ).loc main_arg0)) (bigRow t r) k := by
  rw [← V_rows]
  unfold blkRows
  blk_simp [iblk]
  refine congrArg (V m c main_v4 : Vec Ideal S16384x5120 .bf16) (ix2_of _ _ _ ?_ ?_)
  · blk_simp [index0]
    rfl
  · blk_simp [index0]

/-- The weights' block is the whole array. -/
theorem blkWeights_apply (c : Dev nD) (t : Fin cfg0.N) : blkWeights (iblk m c 1 t) = weights (m ((c : Thread nD τ).loc main_arg1)) := by
  funext o k
  rw [← V_main_arg1 m c]
  unfold blkWeights weights
  blk_simp [iblk]
  refine congrArg (V m c main_arg1 : Vec Ideal S3456x5120 .fp8e4m3) (ix2_of _ _ _ ?_ ?_)
  · blk_simp [index1]
  · blk_simp [index1]

/-- The weight scales' block is the whole array. -/
theorem blkScales_apply (c : Dev nD) (t : Fin cfg0.N) : blkScales (iblk m c 2 t) = wscales (m ((c : Thread nD τ).loc main_arg2)) := by
  funext o g
  rw [← V_scales]
  unfold blkScales
  blk_simp [iblk]
  refine congrArg (V m c main_v3 : Vec Ideal S40x3456 .f32) (ix2_of _ _ _ ?_ ?_)
  · blk_simp [index2]
  · blk_simp [index2]

/-- What point `t` leaves in output window 5. -/
theorem left5 (c : Dev nD) (t : Fin cfg0.N) : (outsAt0 m c t).2.2 = scaleBlk (iblk m c 0 t) :=
  out5_eq (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t)

/-- What point `t` leaves in output window 4. -/
theorem left4 (c : Dev nD) (t : Fin cfg0.N) : (outsAt0 m c t).2.1 = codeBlk (iblk m c 0 t) :=
  out4_eq (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (iblk m c 0 t) (iblk m c 1 t) (iblk m c 2 t)

/-- What point `t` leaves in output window 3. -/
theorem left3 (c : Dev nD) (t : Fin cfg0.N) : (outsAt0 m c t).1 = outBlk (iblk m c 0 t) (iblk m c 1 t) (iblk m c 2 t) := by
  simp only [outsAt0]
  rw [out3_eq]

/-- A point's block of scales is the array's scales of its rows. -/
theorem scales_at (c : Dev nD) (t : Fin cfg0.N) (y : S256x40.Idx) :
    scaleBlk (iblk m c 0 t) y = kScale (rowMax (rows (m ((c : Thread nD τ).loc main_arg0))) (bigRow t (y 0)) (y 1)) := by
  refine (congrArg (scaleBlk _) (eq_ix2 y)).trans ((scaleBlk_apply _ (y 0) (y 1)).trans ?_)
  exact congrArg kScale (rowMax_row (fun k => blkRows_apply m c t (y 0) k) (y 1))

/-- A point's block of codes is the array's codes of its rows. -/
theorem codes_at (c : Dev nD) (t : Fin cfg0.N) (y : S256x5120.Idx) :
    codeBlk (iblk m c 0 t) y = code kInv (rows (m ((c : Thread nD τ).loc main_arg0))) (bigRow t (y 0)) (y 1) := by
  refine (congrArg (codeBlk _) (eq_ix2 y)).trans ((codeBlk_apply _ (y 0) (y 1)).trans ?_)
  exact code_row kInv (fun k => blkRows_apply m c t (y 0) k) (y 1)

/-- A point's result block is the layer at its rows. -/
theorem layer_at (c : Dev nD) (t : Fin cfg0.N) (y : S256x3456.Idx) :
    outBlk (iblk m c 0 t) (iblk m c 1 t) (iblk m c 2 t) y
      = layer kScale kInv (rows (m ((c : Thread nD τ).loc main_arg0))) (weights (m ((c : Thread nD τ).loc main_arg1)))
        (wscales (m ((c : Thread nD τ).loc main_arg2))) (bigRow t (y 0)) (y 1) := by
  refine (congrArg (outBlk _ _ _) (eq_ix2 y)).trans ((outBlk_apply _ _ _ (y 0) (y 1)).trans ?_)
  rw [blkWeights_apply, blkScales_apply]
  exact layer_row kScale kInv _ _ (fun k => blkRows_apply m c t (y 0) k) (y 1)

/-- The third result array: the scales. -/
theorem final5 (c : Dev nD) : (dats m 0 c).arrAt 5 cfg0.N
    = (fun y => kScale (rowMax (rows (m ((c : Thread nD τ).loc main_arg0))) (y 0) (y 1)) : Vec Ideal S16384x40 .f32) := by
  refine (dats m 0 c).arrAt_eq_of_covers 5 _ (by decide +kernel) fun t hf y => ?_
  blk_simp
  rw [after0_5]
  rw [left5]
  have h0 : (win0_5.blk t).view.emb y 0 = bigRow t (y 0) := Fin.ext (by blk_simp [index5]; rfl)
  have h1 : (win0_5.blk t).view.emb y 1 = y 1 := Fin.ext (by blk_simp [index5])
  rw [h0, h1]
  exact scales_at m c t y

/-- The second result array: the codes. -/
theorem final4 (c : Dev nD) : (dats m 0 c).arrAt 4 cfg0.N
    = (fun y => code kInv (rows (m ((c : Thread nD τ).loc main_arg0))) (y 0) (y 1) : Vec Ideal S16384x5120 .fp8e4m3) := by
  refine (dats m 0 c).arrAt_eq_of_covers 4 _ (by decide +kernel) fun t hf y => ?_
  blk_simp
  rw [after0_4]
  rw [left4]
  have h0 : (win0_4.blk t).view.emb y 0 = bigRow t (y 0) := Fin.ext (by blk_simp [index4]; rfl)
  have h1 : (win0_4.blk t).view.emb y 1 = y 1 := Fin.ext (by blk_simp [index4])
  rw [h0, h1]
  exact codes_at m c t y

/-- The first result array: the linear layer. -/
theorem final3 (c : Dev nD) : (dats m 0 c).arrAt 3 cfg0.N
    = (fun y => layer kScale kInv (rows (m ((c : Thread nD τ).loc main_arg0))) (weights (m ((c : Thread nD τ).loc main_arg1)))
        (wscales (m ((c : Thread nD τ).loc main_arg2))) (y 0) (y 1) : Vec Ideal S16384x3456 .bf16) := by
  refine (dats m 0 c).arrAt_eq_of_covers 3 _ (by decide +kernel) fun t hf y => ?_
  blk_simp
  rw [after0_3]
  rw [left3]
  have h0 : (win0_3.blk t).view.emb y 0 = bigRow t (y 0) := Fin.ext (by blk_simp [index3]; rfl)
  have h1 : (win0_3.blk t).view.emb y 1 = y 1 := Fin.ext (by blk_simp [index3])
  rw [h0, h1]
  exact layer_at m c t y

end Cert.KernelIdeal.Group

end
-- ==== Proof.RefValue.lean ====
/-
  WHAT THE REFERENCE COMPUTES, NUMBER BY NUMBER: its three results are the functions of Proof/Spec.lean of the arguments, with the
  reference's scale (a power of two by the logarithm) and the reference's factor.
-/
module

public import proofs.«01_k».proof.Proof.Spec
public import proofs.«01_k».proof.Proof.Gen.ReferenceIdeal.Value
public import Idealize.ShloMosaic.Lib.ValueIdx
public import Idealize.ShloMosaic.Lib.ValueLayout
public import Idealize.ShloMosaic.Lib.StackMember

@[expose] public section

noncomputable section

namespace Cert.ReferenceIdeal.Layer

open Cert.ReferenceIdeal Cert.ReferenceIdeal.Gen Cert.Fp8 Idealize.ShloMosaic Idealize.ShloMosaic.ValueIdx

variable (a0 : Vec Ideal S2x8192x5120 .bf16) (a1 : Vec Ideal S3456x5120 .fp8e4m3) (a2 : Vec Ideal S27x40 .f32)

section At

variable {s : Shape} (v w : FVec Ideal s .f32) (j : s.Idx)

/-! The operations the reference uses, at an index. -/

theorem exp2_at : exp2 v j = Ideal.exp2 (v j) := rfl
theorem log_at : log v j = Ideal.log (v j) := rfl
theorem floor_at : floor v j = Ideal.liftRound Int.floor (v j) := rfl
theorem abs_at : absf v j = max (v j) (-(v j)) := rfl
theorem sub_at : subf v w j = v j - w j := rfl
theorem div_at : divf v w j = Ideal.div (v j) (w j) := rfl
theorem add_at : addf v w j = v j + w j := rfl
theorem max_at : maximumf v w j = max (v j) (w j) := rfl
theorem min_at : minimumf v w j = min (v j) (w j) := rfl
theorem trunc_at {φ : FTy} (h : φ.bits < FTy.bits .f32) : truncf φ v h j = v j := rfl
theorem splat_at (b : BitVec (FTy.bits .f32)) : broadcast s (Scalar.ofBits .f32 b : Ideal .f32) j = Ideal.ofBits .f32 b := rfl
theorem eq_at : cmpf .oeq v w j = Ideal.cmp .oeq (v j) (w j) := rfl

end At

/-- The activations by row, group and column of the group. -/
theorem wide_apply (r : Fin 16384) (g : Fin 40) (k : Fin 128) : k0_pay3 (F := Ideal) a0 (ix3 r g k) = rows a0 r (col g k) := by
  unfold rows
  refine shapeCast_apply (s := S2x8192x5120) _ _ _ _ ?_
  rw [Shape.rowMajor_val_three, Shape.rowMajor_val_three]
  show (r.val / 8192 * 8192 + r.val % 8192) * 5120 + (128 * g.val + k.val) = (r.val * 40 + g.val) * 128 + k.val
  rw [Nat.div_add_mod']
  omega

/-- The largest magnitudes. -/
def amax : FVec Ideal S16384x40 .f32 :=
  multiReduction .maximumf [2] S16384x40 (absf (k0_pay3 (F := Ideal) a0)) 0xFF800000#32 reduces_S16384x40x128_S16384x40 (.inl rfl) rfl

theorem amax_apply (r : Fin 16384) (g : Fin 40) : amax a0 (ix2 r g) = rowMax (rows a0) r g := by
  unfold amax
  refine (Ideal.multiReduction_maximumf_single _ _ _ _ _ _).trans ?_
  unfold rowMax maxAbs
  refine Finset.fold_congr fun (k : Fin 128) _ => ?_
  have e : reduces_S16384x40x128_S16384x40.lift (ix2 r g) k = ix3 r g k := by
    funext a
    match a with
    | ⟨0, _⟩ => rfl
    | ⟨1, _⟩ => rfl
    | ⟨2, _⟩ => rfl
  refine (abs_at _ _).trans ?_
  rw [e, wide_apply]

/-- The constant `log 2`. -/
def ln2 : Ideal .f32 := Named.named (F := Ideal) κ (φ := .f32) "ln2" 0x3F317218#32

theorem ln2_eq : ln2 = ((Real.log 2 : ℝ) : EReal) := IdealRules.named_const.ideal_named_scalar _ _ _ _ rfl

theorem ln2_at (j : S16384x40.Idx) : broadcast S16384x40 ln2 j = ((Real.log 2 : ℝ) : EReal) := ln2_eq

theorem expo_eq : k0_pay4 (F := Ideal) a0
    = select (cmpf .oeq (amax a0) (broadcast S16384x40 (Scalar.ofBits .f32 0x00000000#32 : Ideal .f32)))
      (broadcast S16384x40 (Scalar.ofBits .f32 0x00000000#32 : Ideal .f32))
      (addf (floor (divf (log (mulf (amax a0) (broadcast S16384x40 (Scalar.ofBits .f32 0x3B124925#32 : Ideal .f32)))) (broadcast S16384x40 ln2)))
        (broadcast S16384x40 (Scalar.ofBits .f32 0x3F800000#32 : Ideal .f32))) := rfl

/-- The exponents. -/
theorem expo_apply (r : Fin 16384) (g : Fin 40) : k0_pay4 (F := Ideal) a0 (ix2 r g) = rExp (rowMax (rows a0) r g) := by
  rw [expo_eq, select_apply, eq_at, add_at, floor_at, div_at, log_at, mulf_apply, splat_at, splat_at, splat_at, ln2_at, amax_apply]
  unfold rExp c448
  exact rfl

theorem scale_eq : k0_pay5 (F := Ideal) a0 = exp2 (k0_pay4 (F := Ideal) a0) := rfl

/-- The scales. -/
theorem scale_apply (r : Fin 16384) (g : Fin 40) : k0_pay5 (F := Ideal) a0 (ix2 r g) = rScale (rowMax (rows a0) r g) := by
  rw [scale_eq, exp2_at, expo_apply]
  unfold rScale
  exact rfl

/-- The factors. -/
def inv : FVec Ideal S16384x40 .f32 := exp2 (subf (broadcast S16384x40 (Scalar.ofBits .f32 0x00000000#32 : Ideal .f32)) (k0_pay4 (F := Ideal) a0))

theorem inv_apply (r : Fin 16384) (g : Fin 40) : inv a0 (ix2 r g) = rInv (rowMax (rows a0) r g) := by
  unfold inv
  rw [exp2_at, sub_at, splat_at, expo_apply]
  unfold rInv
  exact rfl

theorem codes_eq : k0_pay6 (F := Ideal) a0
    = truncf .fp8e4m3 (minimumf (broadcast S16384x40x128 (Scalar.ofBits .f32 0x43E00000#32 : Ideal .f32))
      (maximumf (broadcast S16384x40x128 (Scalar.ofBits .f32 0xC3E00000#32 : Ideal .f32))
        (mulf (k0_pay3 (F := Ideal) a0)
          (broadcastTo S16384x40x128 (shapeCast S16384x40x1 (inv a0) shapeCasts_S16384x40_S16384x40x1) broadcasts_S16384x40x1_S16384x40x128))))
      bitsLt_fp8e4m3_f32 := rfl

/-- The codes, by group. -/
theorem codes_apply (r : Fin 16384) (g : Fin 40) (k : Fin 128) :
    k0_pay6 (F := Ideal) a0 (ix3 r g k) = code rInv (rows a0) r (col g k) := by
  have hb : broadcastTo S16384x40x128 (shapeCast S16384x40x1 (inv a0) shapeCasts_S16384x40_S16384x40x1) broadcasts_S16384x40x1_S16384x40x128
      (ix3 r g k) = inv a0 (ix2 r g) := by
    refine (broadcastTo_apply _ _ _ (ix3 r g ⟨0, by decide⟩) fun a => ?_).trans (shapeCast_apply _ _ _ _ ?_)
    · match a with
      | ⟨0, _⟩ => rfl
      | ⟨1, _⟩ => rfl
      | ⟨2, _⟩ => rfl
    · rw [Shape.rowMajor_val_two, Shape.rowMajor_val_three]
      show r.val * 40 + g.val = (r.val * 40 + g.val) * 1 + 0
      omega
  rw [codes_eq, trunc_at, min_at, max_at, splat_at, splat_at, mulf_apply, hb, wide_apply, inv_apply]
  unfold code clip
  rw [groupOf_col]

/-- The weights, by group. -/
def wgroups : FVec Ideal S3456x40x128 .fp8e4m3 := shapeCast S3456x40x128 a1 shapeCasts_S3456x5120_S3456x40x128

theorem wgroups_apply (o : Fin 3456) (g : Fin 40) (k : Fin 128) : wgroups a1 (ix3 o g k) = weights a1 o (col g k) := by
  unfold wgroups weights
  refine shapeCast_apply (s := S3456x5120) _ _ _ _ ?_
  rw [Shape.rowMajor_val_two, Shape.rowMajor_val_three]
  show o.val * 5120 + (128 * g.val + k.val) = (o.val * 40 + g.val) * 128 + k.val
  omega

/-- The product of each group's codes and weights. -/
theorem dot_apply (A : FVec Ideal S16384x40x128 .fp8e4m3) (B : FVec Ideal S3456x40x128 .fp8e4m3) (g : Fin 40) (r : Fin 16384) (o : Fin 3456) :
    matmul dot_S16384x40x128_S3456x40x128_S40x16384x3456_2_2_0_0_1_1 none A B (constant S40x16384x3456 .f32 0x00000000#32) (ix3 g r o)
      = ∑ k : Fin 128, A (ix3 r g k) * B (ix3 o g k) := by
  refine (Ideal.matmul_constant_zero_apply _ none A B (ix3 g r o)).trans ?_
  rw [← Equiv.sum_comp (contrEquiv1 dot_S16384x40x128_S3456x40x128_S40x16384x3456_2_2_0_0_1_1 128 rfl rfl).symm]
  refine Finset.sum_congr rfl fun k _ => ?_
  have c3 := contrEquiv1_symm_val dot_S16384x40x128_S3456x40x128_S40x16384x3456_2_2_0_0_1_1 128 rfl rfl k
  have l3 : dot_S16384x40x128_S3456x40x128_S40x16384x3456_2_2_0_0_1_1.lhsIdx (ix3 g r o) ((contrEquiv1 _ 128 rfl rfl).symm k) = ix3 r g k := by
    funext ax; apply Fin.ext
    match ax with
    | ⟨0, _⟩ => rfl
    | ⟨1, _⟩ => rfl
    | ⟨2, _⟩ => exact c3
  have r3 : dot_S16384x40x128_S3456x40x128_S40x16384x3456_2_2_0_0_1_1.rhsIdx (ix3 g r o) ((contrEquiv1 _ 128 rfl rfl).symm k) = ix3 o g k := by
    funext ax; apply Fin.ext
    match ax with
    | ⟨0, _⟩ => rfl
    | ⟨1, _⟩ => rfl
    | ⟨2, _⟩ => exact c3
  rw [l3, r3]

theorem scaled_eq : k0_pay7 (F := Ideal) a0 a1
    = mulf (matmul dot_S16384x40x128_S3456x40x128_S40x16384x3456_2_2_0_0_1_1 none (k0_pay6 (F := Ideal) a0) (wgroups a1)
        (constant S40x16384x3456 .f32 0x00000000#32))
      (broadcastTo S40x16384x3456 (shapeCast S40x16384x1 (transpose S40x16384 [1, 0] (k0_pay5 (F := Ideal) a0) transposes_S16384x40_p1_0_S40x16384)
        shapeCasts_S40x16384_S40x16384x1) broadcasts_S40x16384x1_S40x16384x3456) := rfl

/-- A group's product under the group's scale. -/
theorem scaled_apply (g : Fin 40) (r : Fin 16384) (o : Fin 3456) : k0_pay7 (F := Ideal) a0 a1 (ix3 g r o)
    = (∑ k : Fin 128, code rInv (rows a0) r (col g k) * weights a1 o (col g k)) * rScale (rowMax (rows a0) r g) := by
  have hs : broadcastTo S40x16384x3456 (shapeCast S40x16384x1 (transpose S40x16384 [1, 0] (k0_pay5 (F := Ideal) a0) transposes_S16384x40_p1_0_S40x16384)
      shapeCasts_S40x16384_S40x16384x1) broadcasts_S40x16384x1_S40x16384x3456 (ix3 g r o) = k0_pay5 (F := Ideal) a0 (ix2 r g) := by
    refine (broadcastTo_apply _ _ _ (ix3 g r ⟨0, by decide⟩) fun a => ?_).trans ((shapeCast_apply _ _ _ (ix2 g r) ?_).trans
      (transpose_ix2_apply _ _ _ _))
    · match a with
      | ⟨0, _⟩ => rfl
      | ⟨1, _⟩ => rfl
      | ⟨2, _⟩ => rfl
    · rw [Shape.rowMajor_val_two, Shape.rowMajor_val_three]
      show g.val * 16384 + r.val = (g.val * 16384 + r.val) * 1 + 0
      omega
  rw [scaled_eq, mulf_apply, hs, scale_apply, dot_apply]
  refine congrArg (· * rScale (rowMax (rows a0) r g)) (Finset.sum_congr rfl fun k _ => ?_)
  rw [codes_apply, wgroups_apply]

/-- The weights' scales over all rows. -/
theorem wscales_apply (g : Fin 40) (r : Fin 16384) (o : Fin 3456) : k0_pay8 (F := Ideal) a2 (ix3 g r o) = wscales a2 o g := by
  unfold k0_pay8 wscales
  refine (broadcastTo_apply _ _ _ (ix3 g ⟨0, by decide⟩ o) fun a => ?_).trans ((shapeCast_apply _ _ _ (ix2 g o) ?_).trans
    ((transpose_ix2_apply _ _ _ _).trans ((shapeCast_apply _ _ _
      (ix3 ⟨o.val / 128, Nat.div_lt_of_lt_mul o.isLt⟩ ⟨o.val % 128, Nat.mod_lt _ (by decide)⟩ g) ?_).trans
      ((broadcastTo_apply _ _ _ (ix3 ⟨o.val / 128, Nat.div_lt_of_lt_mul o.isLt⟩ ⟨0, by decide⟩ g) fun a => ?_).trans
        (shapeCast_apply _ _ _ _ ?_)))))
  · match a with
    | ⟨0, _⟩ => rfl
    | ⟨1, _⟩ => rfl
    | ⟨2, _⟩ => rfl
  · rw [Shape.rowMajor_val_two, Shape.rowMajor_val_three]
    show g.val * 3456 + o.val = (g.val * 1 + 0) * 3456 + o.val
    omega
  · rw [Shape.rowMajor_val_three, Shape.rowMajor_val_two]
    show (o.val / 128 * 128 + o.val % 128) * 40 + g.val = o.val * 40 + g.val
    rw [Nat.div_add_mod']
  · match a with
    | ⟨0, _⟩ => rfl
    | ⟨1, _⟩ => rfl
    | ⟨2, _⟩ => rfl
  · rw [Shape.rowMajor_val_two, Shape.rowMajor_val_three]
    show o.val / 128 * 40 + g.val = (o.val / 128 * 1 + 0) * 40 + g.val
    omega

theorem result_eq (v w : FVec Ideal S40x16384x3456 .f32) : k0_pay1 v w
    = truncf .bf16 (multiReduction .add [0] S16384x3456 (mulf v w) 0x00000000#32 reduces_S40x16384x3456_S16384x3456 (.inl rfl) rfl)
      bitsLt_bf16_f32 := rfl

/-- The first result: the linear layer. -/
theorem result_apply (r : Fin 16384) (o : Fin 3456) :
    Value.G3 (F := Ideal) a0 a1 a2 (ix2 r o) = layer rScale rInv (rows a0) (weights a1) (wscales a2) r o := by
  refine (congrFun (result_eq _ _) _).trans ((trunc_at (φ := .bf16) _ _ bitsLt_bf16_f32).trans ?_)
  refine (Ideal.multiReduction_add_single _ _ _ _ _ _).trans ?_
  unfold layer
  refine Finset.sum_congr rfl fun (g : Fin 40) _ => ?_
  have e : reduces_S40x16384x3456_S16384x3456.lift (ix2 r o) g = ix3 g r o := by
    funext a
    match a with
    | ⟨0, _⟩ => rfl
    | ⟨1, _⟩ => rfl
    | ⟨2, _⟩ => rfl
  rw [e, mulf_apply, scaled_apply, wscales_apply]

/-- The second result: the codes. -/
theorem quantised_apply (r : Fin 16384) (c : Fin 5120) : Value.G4 (F := Ideal) a0 a1 a2 (ix2 r c) = code rInv (rows a0) r c := by
  have e : col (groupOf c) ⟨c.val % 128, Nat.mod_lt _ (by decide)⟩ = c :=
    Fin.ext (by show 128 * (c.val / 128) + c.val % 128 = c.val; omega)
  have h := codes_apply a0 r (groupOf c) ⟨c.val % 128, Nat.mod_lt _ (by decide)⟩
  rw [e] at h
  refine (shapeCast_apply _ _ _ _ ?_).trans h
  rw [Shape.rowMajor_val_two, Shape.rowMajor_val_three]
  show (r.val * 40 + c.val / 128) * 128 + c.val % 128 = r.val * 5120 + c.val
  omega

/-- The third result: the scales. -/
theorem scales_apply (r : Fin 16384) (g : Fin 40) : Value.G5 (F := Ideal) a0 a1 a2 (ix2 r g) = rScale (rowMax (rows a0) r g) :=
  scale_apply a0 r g

end Cert.ReferenceIdeal.Layer

end
-- ==== Proof.Pre.lean ====
/-
  WHAT THE PRECONDITION SAYS. The printed predicate is one bit: the conjunction, over all rows and groups, of two comparisons of the group's
  largest magnitude. That bit being one is `InRange` of every group's largest magnitude.
-/
module

public import proofs.«01_k».proof.Proof.Spec
public import proofs.«01_k».proof.Pre_in_range
public import Idealize.ShloMosaic.Lib.ValueIdx
public import Idealize.ShloMosaic.Lib.ValueLayout
public import Idealize.ShloMosaic.Lib.KernelVsHost
public import Idealize.ShloMosaic.Lib.ReduceAll

@[expose] public section

noncomputable section

namespace Cert.Pre_in_range

open Cert.Fp8 Idealize.ShloMosaic Idealize.ShloMosaic.ValueIdx

section At

variable {s : Shape} (v w : FVec Ideal s .f32) (p q : IVec s 1) (j : s.Idx)

/-! The operations the predicate uses, at an index. -/

theorem habs_at : Host.absf v j = max (v j) (-(v j)) := rfl
theorem ole_at : cmpf .ole v w j = BitVec.ofBool (decide (v j ≤ w j)) := rfl
theorem oge_at : cmpf .oge v w j = BitVec.ofBool (decide (w j ≤ v j)) := rfl
theorem oeq_at : cmpf .oeq v w j = BitVec.ofBool (decide (v j = w j)) := rfl
theorem mul_at : mulf v w j = v j * w j := rfl
theorem andi_at : andi p q j = IntOp.andi (p j) (q j) := rfl
theorem ori_at : ori p q j = IntOp.ori (p j) (q j) := rfl

end At

/-- The bit of a decided proposition. -/
theorem bit_one (p : Prop) [Decidable p] : BitVec.ofBool (decide p) = 1#1 ↔ p := by
  by_cases h : p <;> simp [h]

variable [Facts]
open Facts

variable (a0 : FVec Ideal S2x8192x5120 .bf16) (a1 : FVec Ideal S3456x5120 .fp8e4m3) (a2 : FVec Ideal S27x40 .f32)

theorem reducesMax : S16384x40x128.Reduces [2] S16384x40 := by decide

/-- A number laid over all rows and groups. -/
def splat (b : BitVec (FTy.bits .f32)) : FVec Ideal S16384x40 .f32 := broadcastInDim S16384x40 ![] bcast_S_S16384x40 (constant S_ .f32 b)

theorem splat_at (b : BitVec (FTy.bits .f32)) (j : S16384x40.Idx) : splat b j = Ideal.ofBits .f32 b := rfl

/-- The magnitudes, by group. -/
def mags : FVec Ideal S16384x40x128 .f32 :=
  shapeCast S16384x40x128 (Host.absf (extf .f32 a0 bitsLt_bf16_f32 : FVec Ideal S2x8192x5120 .f32)) shapeCasts_S2x8192x5120_S16384x40x128

theorem mags_apply (r : Fin 16384) (g : Fin 40) (k : Fin 128) : mags a0 (ix3 r g k) = max (rows a0 r (col g k)) (-(rows a0 r (col g k))) := by
  unfold mags rows
  refine (shapeCast_apply (s := S2x8192x5120) _ _ _
    (ix3 ⟨r.val / 8192, Nat.div_lt_of_lt_mul r.isLt⟩ ⟨r.val % 8192, Nat.mod_lt _ (by decide)⟩ (col g k)) ?_).trans (habs_at _ _)
  rw [Shape.rowMajor_val_three, Shape.rowMajor_val_three]
  show (r.val / 8192 * 8192 + r.val % 8192) * 5120 + (128 * g.val + k.val) = (r.val * 40 + g.val) * 128 + k.val
  rw [Nat.div_add_mod']
  omega

/-- The largest magnitudes. -/
def amax : FVec Ideal S16384x40 .f32 :=
  Host.reduce FloatOps.maximumf (mags a0) (constant S_ .f32 0xFF800000#32) reducesTo_S16384x40x128_S16384x40_d2 h_S_

theorem amax_apply (r : Fin 16384) (g : Fin 40) : amax a0 (ix2 r g) = rowMax (rows a0) r g := by
  unfold amax
  rw [hostReduce_maximumf_eq_multiReduction (mags a0) 0xFF800000#32 _ h_S_ reducesMax (.inl rfl) rfl]
  refine (Ideal.multiReduction_maximumf_single _ _ _ _ _ _).trans ?_
  unfold rowMax maxAbs
  refine Finset.fold_congr fun (k : Fin 128) _ => ?_
  have e : reducesMax.lift (ix2 r g) k = ix3 r g k := by
    funext a
    match a with
    | ⟨0, _⟩ => rfl
    | ⟨1, _⟩ => rfl
    | ⟨2, _⟩ => rfl
  exact (congrArg (mags a0) e).trans (mags_apply a0 r g k)

/-- The bit of each group. -/
def bits : IVec S16384x40 1 :=
  andi (cmpf .ole (amax a0) (splat 0x7F7F0000#32))
    (ori (cmpf .oeq (amax a0) (splat 0x00000000#32)) (cmpf .oge (mulf (amax a0) (splat 0x3B124925#32)) (splat 0x00800000#32)))

theorem fn_eq : fn (F := Ideal) a0 a1 a2 = Host.reduce IntOp.andi (bits a0) (constantI S_ 1 1#1) reducesTo_S16384x40_S_d0_1 h_S_ := rfl

/-- The predicate all ones puts every group in range. -/
theorem inRange (h : fn (F := Ideal) a0 a1 a2 = fun _ => 1#1) (r : Fin 16384) (g : Fin 40) : InRange (rowMax (rows a0) r g) := by
  have hs : Subsingleton S_.Idx := ⟨fun a b => funext fun i => i.elim0⟩
  have hb : bits a0 (ix2 r g) = 1#1 :=
    Host.reduce_andi_all (bits a0) _ reducesTo_S16384x40_S_d0_1 h_S_ (fun i => i.elim0) ((congrFun (fn_eq a0 a1 a2) _).symm.trans (congrFun h _)) _
  unfold bits at hb
  rw [andi_at, IntOp.andi_eq_one, ori_at, IntOp.ori_eq_one, ole_at, oeq_at, oge_at, mul_at, bit_one, bit_one,
    bit_one, splat_at, splat_at, splat_at, splat_at, amax_apply] at hb
  rw [Ideal.ofBits_zero_f32] at hb
  exact hb

end Cert.Pre_in_range

end
-- ==== Proof.Algebra.lean ====
/-
  THE EQUATION. From memories that agree on the arguments, with every group in range, the kernel's three result arrays are the reference's.
-/
module

public import proofs.«01_k».proof.Defs
public import proofs.«01_k».proof.Proof.KernelValue
public import proofs.«01_k».proof.Proof.RefValue
public import proofs.«01_k».proof.Proof.Pre

@[expose] public section

noncomputable section

namespace Cert.Proof

open Cert.Fp8 Idealize.ShloMosaic.ValueIdx Idealize.ShloMosaic.TcCoe Idealize.SL.Sem
open Idealize.ShloMosaic hiding ix2

/-- An index of a matrix is its row and its column. -/
theorem idx_eq {A B : ℕ} (y : Shape.Idx ⟨2, ![A, B]⟩) (r : Fin A) (c : Fin B) (hr : r = y 0) (hc : c = y 1) : y = ix2 r c := by
  subst hr
  subst hc
  funext a
  match a with
  | ⟨0, _⟩ => rfl
  | ⟨1, _⟩ => rfl

section Results

variable (a0 : Vec Ideal ReferenceIdeal.S2x8192x5120 .bf16) (a1 : Vec Ideal ReferenceIdeal.S3456x5120 .fp8e4m3) (a2 : Vec Ideal ReferenceIdeal.S27x40 .f32)

theorem result_eq (h : ∀ r g, InRange (rowMax (rows a0) r g)) :
    (fun y => layer kScale kInv (rows a0) (weights a1) (wscales a2) (y 0) (y 1) : Vec Ideal ReferenceIdeal.S16384x3456 .bf16)
      = ReferenceIdeal.Value.G3 (F := Ideal) a0 a1 a2 := by
  funext y
  exact (layer_agree _ _ _ h (y 0) (y 1)).trans ((ReferenceIdeal.Layer.result_apply a0 a1 a2 (y 0) (y 1)).symm.trans
    (congrArg (ReferenceIdeal.Value.G3 (F := Ideal) a0 a1 a2) (idx_eq y (y 0) (y 1) rfl rfl).symm))

theorem codes_eq (h : ∀ r g, InRange (rowMax (rows a0) r g)) :
    (fun y => code kInv (rows a0) (y 0) (y 1) : Vec Ideal ReferenceIdeal.S16384x5120 .fp8e4m3) = ReferenceIdeal.Value.G4 (F := Ideal) a0 a1 a2 := by
  funext y
  exact (code_agree _ h (y 0) (y 1)).trans ((ReferenceIdeal.Layer.quantised_apply a0 a1 a2 (y 0) (y 1)).symm.trans
    (congrArg (ReferenceIdeal.Value.G4 (F := Ideal) a0 a1 a2) (idx_eq y (y 0) (y 1) rfl rfl).symm))

theorem scales_eq (h : ∀ r g, InRange (rowMax (rows a0) r g)) :
    (fun y => kScale (rowMax (rows a0) (y 0) (y 1)) : Vec Ideal ReferenceIdeal.S16384x40 .f32) = ReferenceIdeal.Value.G5 (F := Ideal) a0 a1 a2 := by
  funext y
  exact (scales_agree (h (y 0) (y 1))).1.trans ((ReferenceIdeal.Layer.scales_apply a0 a1 a2 (y 0) (y 1)).symm.trans
    (congrArg (ReferenceIdeal.Value.G5 (F := Ideal) a0 a1 a2) (idx_eq y (y 0) (y 1) rfl rfl).symm))

end Results

/-- The value claim: all three results. -/
theorem algebraic (hPre : Cert.Pre_in_range.Facts) :
    Cert.algebraic_KernelIdeal_ReferenceIdeal_pre_in_range (hKernelIdeal := Cert.KernelIdeal.Gen.facts) (hReferenceIdeal := Cert.ReferenceIdeal.Gen.facts)
      (hPre_in_range := hPre) := by
  intro m g m' g' hpre hargs
  have hr := fun c => Cert.Pre_in_range.inRange _ _ _ (hpre c)
  refine ⟨fun c => ReferenceIdeal.Value.G3 (F := Ideal) (m ((c : Thread KernelIdeal.nD KernelIdeal.τ).loc KernelIdeal.main_arg0))
      (m ((c : Thread KernelIdeal.nD KernelIdeal.τ).loc KernelIdeal.main_arg1)) (m ((c : Thread KernelIdeal.nD KernelIdeal.τ).loc KernelIdeal.main_arg2)),
    fun c => ReferenceIdeal.Value.G4 (F := Ideal) (m ((c : Thread KernelIdeal.nD KernelIdeal.τ).loc KernelIdeal.main_arg0))
      (m ((c : Thread KernelIdeal.nD KernelIdeal.τ).loc KernelIdeal.main_arg1)) (m ((c : Thread KernelIdeal.nD KernelIdeal.τ).loc KernelIdeal.main_arg2)),
    fun c => ReferenceIdeal.Value.G5 (F := Ideal) (m ((c : Thread KernelIdeal.nD KernelIdeal.τ).loc KernelIdeal.main_arg0))
      (m ((c : Thread KernelIdeal.nD KernelIdeal.τ).loc KernelIdeal.main_arg1)) (m ((c : Thread KernelIdeal.nD KernelIdeal.τ).loc KernelIdeal.main_arg2)),
    ?_, ?_⟩
  · refine (θ_run _ _ _).mono (fun r h c => ?_) (KernelIdeal.Value.run_blocks (F := Ideal) m g)
    obtain ⟨h3, h4, h5, k0, k1, k2⟩ := h c
    exact ⟨h3.trans ((KernelIdeal.Group.final3 m c).trans (result_eq _ _ _ (hr c))),
      h4.trans ((KernelIdeal.Group.final4 m c).trans (codes_eq _ _ _ (hr c))),
      h5.trans ((KernelIdeal.Group.final5 m c).trans (scales_eq _ _ _ (hr c))), k0, k1, k2⟩
  · refine (θ_run _ _ _).mono (fun r h c => ?_) (ReferenceIdeal.Value.run (F := Ideal) m' g')
    obtain ⟨h3, h4, h5, k0, k1, k2⟩ := h c
    obtain ⟨e0, e1, e2⟩ := hargs c
    rw [e0, e1, e2] at h3 h4 h5
    exact ⟨h3, h4, h5, k0, k1, k2⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.Reference
public import proofs.«01_k».proof.Proof.Gen.Reference.Frame
public import proofs.«01_k».proof.Proof.Gen.Pre_in_range
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Reference.Gen.facts, Cert.Pre_in_range.Gen.facts,
    fun m g _ => Cert.Kernel.Gen.frame (F := Bits) m g,
    fun m g _ => Cert.KernelIdeal.Gen.frame (F := Ideal) m g,
    fun m g _ => Cert.KernelIdeal.Gen.frame (F := Ideal) m g,
    fun m g _ => Cert.ReferenceIdeal.Gen.frame (F := Ideal) m g,
    fun m g _ => Cert.ReferenceIdeal.Gen.frame (F := Ideal) m g,
    fun m g _ => Cert.Reference.Gen.frame (F := Bits) m g,
    trivial,
    IdealRules.named_const.statement Cert.ReferenceIdeal.κ "ln2" .f32 0x3F317218#32 ((Real.log 2 : ℝ) : EReal) rfl,
    algebraic Cert.Pre_in_range.Gen.facts⟩

end Cert.Proof

end
